-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v18)) (v2 : (c : Dev Cert.KernelIdeal.nD) → Buf (Elt Ideal) ((c.tc : Thread Cert.KernelIdeal.nD Cert.KernelIdeal.τ).loc Cert.KernelIdeal.main_v19)) (v3 : (c : Dev Cert.KernelIdeal.nD) → Buf (Elt Ideal) ((c.tc : Thread Cert.KernelIdeal.nD Cert.KernelIdeal.τ).loc Cert.KernelIdeal.main_v8_0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_v19) = v2 c
          ∧ r.2.mem ((c.tc : Thread Cert.KernelIdeal.nD Cert.KernelIdeal.τ).loc Cert.KernelIdeal.main_v8_0) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_v17) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32x64x32x32 : Shape := ⟨4, ![32, 64, 32, 32]⟩
abbrev S1024x64 : Shape := ⟨2, ![1024, 64]⟩
abbrev S_ : Shape := ⟨0, ![]⟩

class Facts : Prop where
  bcast_S_S32x64x32x32 : S_.BroadcastsInDim S32x64x32x32 (![] : Fin 0 → Fin S32x64x32x32.rank)
  reducesTo_S32x64x32x32_S_d0_1_2_3 : S32x64x32x32.ReducesTo [0, 1, 2, 3] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S32x64x32x32 .f32) (main_arg1 : FVec F S1024x64 .f32) : IVec S_ 1 :=
  let main_v0 : FVec F S32x64x32x32 .f32 := Host.absf main_arg0
  let main_cst : FVec F S_ .f32 := constant S_ .f32 0x7F800000#32
  let main_v1 : FVec F S32x64x32x32 .f32 := broadcastInDim S32x64x32x32 ![] bcast_S_S32x64x32x32 main_cst
  let main_v2 : IVec S32x64x32x32 1 := cmpf .olt main_v0 main_v1
  let main_c : IVec S_ 1 := constantI S_ 1 1#1
  let main_v3 : IVec S_ 1 := (fun x v => Host.reduce IntOp.andi x v reducesTo_S32x64x32x32_S_d0_1_2_3 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  main_v8
-- ==== Kernel.lean ====
abbrev S32x64x32x32 : Shape := ⟨4, ![32, 64, 32, 32]⟩
abbrev S1024x64 : Shape := ⟨2, ![1024, 64]⟩
abbrev S32x32x32x64 : Shape := ⟨4, ![32, 32, 32, 64]⟩
abbrev S32768x64 : Shape := ⟨2, ![32768, 64]⟩
abbrev S_ : Shape := ⟨0, ![]⟩
abbrev S32768 : Shape := ⟨1, ![32768]⟩
abbrev S32768x1 : Shape := ⟨2, ![32768, 1]⟩
abbrev S1024 : Shape := ⟨1, ![1024]⟩
abbrev S1x1024 : Shape := ⟨2, ![1, 1024]⟩
abbrev S32768x1024 : Shape := ⟨2, ![32768, 1024]⟩
abbrev S1x1 : Shape := ⟨2, ![1, 1]⟩
abbrev S2048x64 : Shape := ⟨2, ![2048, 64]⟩
abbrev S2048x1 : Shape := ⟨2, ![2048, 1]⟩
abbrev S2048x1024 : Shape := ⟨2, ![2048, 1024]⟩
abbrev S2048 : Shape := ⟨1, ![2048]⟩
abbrev S1x2048x1 : Shape := ⟨3, ![1, 2048, 1]⟩
abbrev S1 : Shape := ⟨1, ![1]⟩
abbrev S1x1x1 : Shape := ⟨3, ![1, 1, 1]⟩
abbrev S1x1x1024 : Shape := ⟨3, ![1, 1, 1024]⟩
abbrev S1024x128 : Shape := ⟨2, ![1024, 128]⟩
abbrev S8x128 : Shape := ⟨2, ![8, 128]⟩
abbrev S1032x128 : Shape := ⟨2, ![1032, 128]⟩
abbrev S1x32768 : Shape := ⟨2, ![1, 32768]⟩
abbrev S32768x128 : Shape := ⟨2, ![32768, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1x128x128 : Shape := ⟨3, ![1, 128, 128]⟩
abbrev S128x128 : Shape := ⟨2, ![128, 128]⟩
abbrev S128 : Shape := ⟨1, ![128]⟩
abbrev S32x32x32x128 : Shape := ⟨4, ![32, 32, 32, 128]⟩

abbrev nBuf : Table → Nat
  | .hbm => 29
  | .local .tc .vmem => 13
  | .local .tc .smem => 1
  | .local .scVector .vmem => 2
  | _ => 0

abbrev bufTy : (tb : Table) → Fin (nBuf tb) → BufTy
  | .hbm, ⟨0, _⟩ => ⟨S32x64x32x32, .f32⟩
  | .hbm, ⟨1, _⟩ => ⟨S1024x64, .f32⟩
  | .hbm, ⟨2, _⟩ => ⟨S32x32x32x64, .f32⟩
  | .hbm, ⟨3, _⟩ => ⟨S32768x64, .f32⟩
  | .hbm, ⟨4, _⟩ => ⟨S32768x64, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S1024x64, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S32768x1024, .f32⟩
  | .hbm, ⟨13, _⟩ => ⟨S32768x1, .i32⟩
  | .hbm, ⟨14, _⟩ => ⟨S1x1, .f32⟩
  | .hbm, ⟨15, _⟩ => ⟨S1x1, .f32⟩
  | .hbm, ⟨16, _⟩ => ⟨S_, .f32⟩
  | .hbm, ⟨17, _⟩ => ⟨S1024x64, .f32⟩
  | .hbm, ⟨18, _⟩ => ⟨S1024x128, .f32⟩
  | .hbm, ⟨19, _⟩ => ⟨S_, .f32⟩
  | .hbm, ⟨20, _⟩ => ⟨S8x128, .f32⟩
  | .hbm, ⟨21, _⟩ => ⟨S1032x128, .f32⟩
  | .hbm, ⟨22, _⟩ => ⟨S1x32768, .i32⟩
  | .hbm, ⟨23, _⟩ => ⟨S32768x128, .f32⟩
  | .hbm, ⟨24, _⟩ => ⟨S32x32x32x128, .f32⟩
  | .hbm, ⟨25, _⟩ => ⟨S32x32x32x64, .f32⟩
  | .hbm, ⟨26, _⟩ => ⟨S32x64x32x32, .f32⟩
  | .hbm, ⟨27, _⟩ => ⟨S_, .f32⟩
  | .hbm, ⟨28, _⟩ => ⟨S_, .f32⟩
  | .local .tc .vmem, ⟨0, _⟩ => ⟨S2048x64, .f32⟩
  | .local .tc .vmem, ⟨1, _⟩ => ⟨S2048x64, .f32⟩
  | .local .tc .vmem, ⟨2, _⟩ => ⟨S1024x64, .f32⟩
  | .local .tc .vmem, ⟨3, _⟩ => ⟨S2048x1, .f32⟩
  | .local .tc .vmem, ⟨4, _⟩ => ⟨S2048x1, .f32⟩
  | .local .tc .vmem, ⟨5, _⟩ => ⟨S1x1024, .f32⟩
  | .local .tc .vmem, ⟨6, _⟩ => ⟨S2048x1024, .f32⟩
  | .local .tc .vmem, ⟨7, _⟩ => ⟨S2048x1024, .f32⟩
  | .local .tc .vmem, ⟨8, _⟩ => ⟨S2048x1, .i32⟩
  | .local .tc .vmem, ⟨9, _⟩ => ⟨S2048x1, .i32⟩
  | .local .tc .vmem, ⟨10, _⟩ => ⟨S1x1, .f32⟩
  | .local .tc .vmem, ⟨11, _⟩ => ⟨S1x1, .f32⟩
  | .local .tc .vmem, ⟨12, _⟩ => ⟨S1x1024, .f32⟩
  | .local .tc .smem, ⟨0, _⟩ => ⟨S1x1, .f32⟩
  | .local .scVector .vmem, ⟨0, _⟩ => ⟨S2x1x128, .i32⟩
  | .local .scVector .vmem, ⟨1, _⟩ => ⟨S2x128x128, .f32⟩
  | _, _ => ⟨S32x64x32x32, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => false
  | ⟨13, _⟩ => false
  | ⟨14, _⟩ => false
  | ⟨15, _⟩ => false
  | ⟨16, _⟩ => false
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev main_v8_3 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v12_scv : Ref sig .scVector := ⟨.hbm, 21, rfl⟩
abbrev main_v13_scv : Ref sig .scVector := ⟨.hbm, 22, rfl⟩
abbrev main_v14_scv : Ref sig .scVector := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.smem, 0, rfl⟩
abbrev cc1_scoped0 : Ref sig .scVector := ⟨.vmem, 0, rfl⟩
abbrev cc1_scoped2 : Ref sig .scVector := ⟨.vmem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v46 : BitVec 1 := Scalar.cmpi .eq arg0 c15_i32
  let v47 : BitVec 32 := Scalar.extui v46
  let c0_i32_24 : BitVec 32 := 0#32
  let v48 : BitVec 1 := Scalar.cmpi .ne v47 c0_i32_24
  v48

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨2, ![2, 16], ![false, false]⟩

def k1_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k1_off2 (i : grid1.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v7_r0 : BitVec 32 := Scalar.addi c0_i32_1_r0 v4
  let v22_r0 : BitVec 32 := Scalar.muli c128_i32_r0 v7_r0
  ![0, v22_r0.toNat]
def k1_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k1_t1_loop : Scf.Loop 32 :=
  let c0_i32_26_r0 : BitVec 32 := 0#32
  let c8_i32_27_r0 : BitVec 32 := 8#32
  let v32_r0 : BitVec 32 := Scalar.addi c0_i32_26_r0 c8_i32_27_r0
  let c1_i32_28_r0 : BitVec 32 := 1#32
  ⟨c0_i32_26_r0, v32_r0, c1_i32_28_r0⟩
def k1_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k1_cond1 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k1_t1
  let c7_i32_68_r0 : BitVec 32 := 7#32
  let v83_r0 : BitVec 1 := Scalar.cmpi .sge arg5_r0 c7_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k1_off5 (i : grid1.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v76_r0 : BitVec 32 := Scalar.addi v75_r0 v4
  let v145_r0 : BitVec 32 := Scalar.muli c128_i32_100_r0 v76_r0
  ![0, v145_r0.toNat]
def k1_off6 (arg6_r0 : BitVec 32) : Fin 1 → Nat :=
  let c2_i32_99_r0 : BitVec 32 := 2#32
  let v144_r0 : BitVec 32 := Scalar.remui arg6_r0 c2_i32_99_r0
  ![v144_r0.toNat]
def k1_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k1_cond2 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k1_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k1_off8 (i : grid1.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let v144_r0 : BitVec 32 := Scalar.muli c128_i32_99_r0 v66_r0
  ![0, v144_r0.toNat]
def k1_off9 (arg7_r0 : BitVec 32) : Fin 1 → Nat :=
  let c2_i32_100_r0 : BitVec 32 := 2#32
  let v145_r0 : BitVec 32 := Scalar.remui arg7_r0 c2_i32_100_r0
  ![v145_r0.toNat]
def k1_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k1_chk2 (arg8_r0 : BitVec 32) : Prop :=
  (∀ a, (k1_off10 arg8_r0) a + S1x128x128.size a ≤ S2x128x128.size a)
theorem k1_off10_inb : ∀ (arg8_r0 : BitVec 32) (k1_hw2 : k1_chk2 arg8_r0), ∀ a, (k1_off10 arg8_r0) a + S1x128x128.size a ≤ S2x128x128.size a := fun arg8_r0 k1_hw2 => k1_hw2

def k1_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k1_chk3 (arg7_r0 : BitVec 32) : Prop :=
  (∀ a, (k1_off11 arg7_r0) a + S1x1x128.size a ≤ S2x1x128.size a)
theorem k1_off11_inb : ∀ (arg7_r0 : BitVec 32) (k1_hw3 : k1_chk3 arg7_r0), ∀ a, (k1_off11 arg7_r0) a + S1x1x128.size a ≤ S2x1x128.size a := fun arg7_r0 k1_hw3 => k1_hw3

def k1_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k1_cond5 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k1_t1
  let c7_i32_55_r0 : BitVec 32 := 7#32
  let v65_r0 : BitVec 1 := Scalar.cmpi .eq arg5_r0 c7_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k1_off13 (i : grid1.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k1_off14 (arg8_r0 : BitVec 32) : Fin 1 → Nat :=
  let c2_i32_99_r0 : BitVec 32 := 2#32
  let v144_r0 : BitVec 32 := Scalar.remui arg8_r0 c2_i32_99_r0
  ![v144_r0.toNat]
def k1_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k1_cond7 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k1_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k1_off16 (i : grid1.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v71_r0 : BitVec 32 := Scalar.addi v70_r0 v4
  let v145_r0 : BitVec 32 := Scalar.muli c128_i32_100_r0 v71_r0
  let c0_i32_103_r0 : BitVec 32 := 0#32
  ![v145_r0.toNat, 0]
def k1_off17 (arg9_r0 : BitVec 32) : Fin 1 → Nat :=
  let c2_i32_99_r0 : BitVec 32 := 2#32
  let v144_r0 : BitVec 32 := Scalar.remui arg9_r0 c2_i32_99_r0
  ![v144_r0.toNat]

def k1_chk1 (i : grid1.Coords) (k1_t1 : Fin k1_t1_loop.trips) (arg6_r0 : BitVec 32) (arg7_r0 : BitVec 32) (arg8_r0 : BitVec 32) (arg9_r0 : BitVec 32) (arg10_r0 : BitVec 32) : Prop :=
  (∀ (k1_h1 : k1_cond1 i k1_t1 arg10_r0 = 1#1), ∀ a, (k1_off4 arg6_r0) a + S1x1x128.size a ≤ S2x1x128.size a) ∧
  (∀ (k1_h1 : k1_cond1 i k1_t1 arg10_r0 = 1#1), ∀ a, (k1_off5 i arg10_r0) a + S1x128.size a ≤ S1x32768.size a) ∧
  (∀ (k1_h1 : k1_cond1 i k1_t1 arg10_r0 = 1#1), ∀ a, (k1_off6 arg6_r0) a + S1.size a ≤ S2.size a) ∧
  (∀ (k1_h2 : k1_cond2 i k1_t1 arg10_r0 = 1#1), ∀ a, (k1_off7 arg7_r0) a + S1x1x128.size a ≤ S2x1x128.size a) ∧
  (∀ (k1_h2 : k1_cond2 i k1_t1 arg10_r0 = 1#1), ∀ a, (k1_off8 i arg10_r0) a + S1x128.size a ≤ S1x32768.size a) ∧
  (∀ (k1_h2 : k1_cond2 i k1_t1 arg10_r0 = 1#1), ∀ a, (k1_off9 arg7_r0) a + S1.size a ≤ S2.size a) ∧
  (∀ (k1_h5 : k1_cond5 i k1_t1 arg10_r0 = 1#1), ∀ a, (k1_off12 arg8_r0) a + S1x128x128.size a ≤ S2x128x128.size a) ∧
  (∀ (k1_h5 : k1_cond5 i k1_t1 arg10_r0 = 1#1), ∀ a, (k1_off13 i arg10_r0) a + S128x128.size a ≤ S32768x128.size a) ∧
  (∀ (k1_h5 : k1_cond5 i k1_t1 arg10_r0 = 1#1), ∀ a, (k1_off14 arg8_r0) a + S1.size a ≤ S2.size a) ∧
  (∀ (k1_h7 : k1_cond7 i k1_t1 arg10_r0 = 1#1), ∀ a, (k1_off15 arg9_r0) a + S1x128x128.size a ≤ S2x128x128.size a) ∧
  (∀ (k1_h7 : k1_cond7 i k1_t1 arg10_r0 = 1#1), ∀ a, (k1_off16 i arg10_r0) a + S128x128.size a ≤ S32768x128.size a) ∧
  (∀ (k1_h7 : k1_cond7 i k1_t1 arg10_r0 = 1#1), ∀ a, (k1_off17 arg9_r0) a + S1.size a ≤ S2.size a)
theorem k1_off4_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off4 arg6_r0) a + S1x1x128.size a ≤ S2x1x128.size a := fun i k1_t1 arg6_r0 arg7_r0 arg8_r0 arg9_r0 arg10_r0 k1_hw1 k1_h1 => k1_hw1.1 k1_h1
theorem k1_off5_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off5 i arg10_r0) a + S1x128.size a ≤ S1x32768.size a := fun i k1_t1 arg6_r0 arg7_r0 arg8_r0 arg9_r0 arg10_r0 k1_hw1 k1_h1 => k1_hw1.2.1 k1_h1
theorem k1_off6_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off6 arg6_r0) a + S1.size a ≤ S2.size a := fun i k1_t1 arg6_r0 arg7_r0 arg8_r0 arg9_r0 arg10_r0 k1_hw1 k1_h1 => k1_hw1.2.2.1 k1_h1
theorem k1_off7_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off7 arg7_r0) a + S1x1x128.size a ≤ S2x1x128.size a := fun i k1_t1 arg6_r0 arg7_r0 arg8_r0 arg9_r0 arg10_r0 k1_hw1 k1_h2 => k1_hw1.2.2.2.1 k1_h2
theorem k1_off8_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off8 i arg10_r0) a + S1x128.size a ≤ S1x32768.size a := fun i k1_t1 arg6_r0 arg7_r0 arg8_r0 arg9_r0 arg10_r0 k1_hw1 k1_h2 => k1_hw1.2.2.2.2.1 k1_h2
theorem k1_off9_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off9 arg7_r0) a + S1.size a ≤ S2.size a := fun i k1_t1 arg6_r0 arg7_r0 arg8_r0 arg9_r0 arg10_r0 k1_hw1 k1_h2 => k1_hw1.2.2.2.2.2.1 k1_h2
theorem k1_off12_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off12 arg8_r0) a + S1x128x128.size a ≤ S2x128x128.size a := fun i k1_t1 arg6_r0 arg7_r0 arg8_r0 arg9_r0 arg10_r0 k1_hw1 k1_h5 => k1_hw1.2.2.2.2.2.2.1 k1_h5
theorem k1_off13_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off13 i arg10_r0) a + S128x128.size a ≤ S32768x128.size a := fun i k1_t1 arg6_r0 arg7_r0 arg8_r0 arg9_r0 arg10_r0 k1_hw1 k1_h5 => k1_hw1.2.2.2.2.2.2.2.1 k1_h5
theorem k1_off14_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off14 arg8_r0) a + S1.size a ≤ S2.size a := fun i k1_t1 arg6_r0 arg7_r0 arg8_r0 arg9_r0 arg10_r0 k1_hw1 k1_h5 => k1_hw1.2.2.2.2.2.2.2.2.1 k1_h5
theorem k1_off15_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off15 arg9_r0) a + S1x128x128.size a ≤ S2x128x128.size a := fun i k1_t1 arg6_r0 arg7_r0 arg8_r0 arg9_r0 arg10_r0 k1_hw1 k1_h7 => k1_hw1.2.2.2.2.2.2.2.2.2.1 k1_h7
theorem k1_off16_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off16 i arg10_r0) a + S128x128.size a ≤ S32768x128.size a := fun i k1_t1 arg6_r0 arg7_r0 arg8_r0 arg9_r0 arg10_r0 k1_hw1 k1_h7 => k1_hw1.2.2.2.2.2.2.2.2.2.2.1 k1_h7
theorem k1_off17_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off17 arg9_r0) a + S1.size a ≤ S2.size a := fun i k1_t1 arg6_r0 arg7_r0 arg8_r0 arg9_r0 arg10_r0 k1_hw1 k1_h7 => k1_hw1.2.2.2.2.2.2.2.2.2.2.2 k1_h7

def k1_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k1_off19 (i : grid1.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c7_i32_33_r0 : BitVec 32 := 7#32
  let v37_r0 : BitVec 32 := Scalar.select v36_r0 c7_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v38_r0 : BitVec 32 := Scalar.addi v37_r0 v4
  let v55_r0 : BitVec 32 := Scalar.muli c128_i32_47_r0 v38_r0
  let c0_i32_50_r0 : BitVec 32 := 0#32
  ![v55_r0.toNat, 0]

def k1_chk5 (i : grid1.Coords) (v33_4_r0 : BitVec 32) : Prop :=
  (∀ a, (k1_off19 i v33_4_r0) a + S128x128.size a ≤ S32768x128.size a)
theorem k1_off19_inb : ∀ (i : grid1.Coords) (v33_4_r0 : BitVec 32) (k1_hw5 : k1_chk5 i v33_4_r0), ∀ a, (k1_off19 i v33_4_r0) a + S128x128.size a ≤ S32768x128.size a := fun i v33_4_r0 k1_hw5 => k1_hw5

def k1_off20 (v33_3_r0 : BitVec 32) : Fin 1 → Nat :=
  let c2_i32_46_r0 : BitVec 32 := 2#32
  let v54_r0 : BitVec 32 := Scalar.remui v33_3_r0 c2_i32_46_r0
  ![v54_r0.toNat]
def k1_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k1_chk4 (v33_3_r0 : BitVec 32) : Prop :=
  (∀ a, (k1_off18 v33_3_r0) a + S1x128x128.size a ≤ S2x128x128.size a) ∧
  (∀ a, (k1_off20 v33_3_r0) a + S1.size a ≤ S2.size a) ∧
  (∀ a, (k1_off21 v33_3_r0) a + S1x128x128.size a ≤ S2x128x128.size a)
theorem k1_off18_inb : ∀ (v33_3_r0 : BitVec 32) (k1_hw4 : k1_chk4 v33_3_r0), ∀ a, (k1_off18 v33_3_r0) a + S1x128x128.size a ≤ S2x128x128.size a := fun v33_3_r0 k1_hw4 => k1_hw4.1
theorem k1_off20_inb : ∀ (v33_3_r0 : BitVec 32) (k1_hw4 : k1_chk4 v33_3_r0), ∀ a, (k1_off20 v33_3_r0) a + S1.size a ≤ S2.size a := fun v33_3_r0 k1_hw4 => k1_hw4.2.1
theorem k1_off21_inb : ∀ (v33_3_r0 : BitVec 32) (k1_hw4 : k1_chk4 v33_3_r0), ∀ a, (k1_off21 v33_3_r0) a + S1x128x128.size a ≤ S2x128x128.size a := fun v33_3_r0 k1_hw4 => k1_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32x64x32x32 : Shape := ⟨4, ![32, 64, 32, 32]⟩
abbrev S1024x64 : Shape := ⟨2, ![1024, 64]⟩
abbrev S32x32x32x64 : Shape := ⟨4, ![32, 32, 32, 64]⟩
abbrev S32768x64 : Shape := ⟨2, ![32768, 64]⟩
abbrev S_ : Shape := ⟨0, ![]⟩
abbrev S32768 : Shape := ⟨1, ![32768]⟩
abbrev S32768x1 : Shape := ⟨2, ![32768, 1]⟩
abbrev S64x1024 : Shape := ⟨2, ![64, 1024]⟩
abbrev S32768x1024 : Shape := ⟨2, ![32768, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩

abbrev nBuf : Space → Nat
  | .hbm => 88
  | .vmem => 0
  | .smem => 0
  | _ => 0

abbrev bufTy : (tb : Table) → Fin (tcTables nBuf tb) → BufTy
  | .hbm, ⟨0, _⟩ => ⟨S32x64x32x32, .f32⟩
  | .hbm, ⟨1, _⟩ => ⟨S1024x64, .f32⟩
  | .hbm, ⟨2, _⟩ => ⟨S32x32x32x64, .f32⟩
  | .hbm, ⟨3, _⟩ => ⟨S32768x64, .f32⟩
  | .hbm, ⟨4, _⟩ => ⟨S32768x64, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S64x1024, .f32⟩
  | .hbm, ⟨9, _⟩ => ⟨S32768x1024, .f32⟩
  | .hbm, ⟨10, _⟩ => ⟨S_, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S1024x64, .f32⟩
  | .hbm, ⟨16, _⟩ => ⟨S_, .f32⟩
  | .hbm, ⟨17, _⟩ => ⟨S1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x1024, .i32⟩
  | .hbm, ⟨22, _⟩ => ⟨S_, .f32⟩
  | .hbm, ⟨23, _⟩ => ⟨S_, .i32⟩
  | .hbm, ⟨24, _⟩ => ⟨S32768, .f32⟩
  | .hbm, ⟨25, _⟩ => ⟨S32768, .i32⟩
  | .hbm, ⟨26, _⟩ => ⟨S32768x1, .i32⟩
  | .hbm, ⟨27, _⟩ => ⟨S1x1024, .i32⟩
  | .hbm, ⟨28, _⟩ => ⟨S32768x1024, .i32⟩
  | .hbm, ⟨29, _⟩ => ⟨S32768x1024, .i32⟩
  | .hbm, ⟨30, _⟩ => ⟨S32768x1024, .i1⟩
  | .hbm, ⟨31, _⟩ => ⟨S32768x1024, .f32⟩
  | .hbm, ⟨32, _⟩ => ⟨S_, .i32⟩
  | .hbm, ⟨33, _⟩ => ⟨S32768, .i32⟩
  | .hbm, ⟨34, _⟩ => ⟨S32768, .i1⟩
  | .hbm, ⟨35, _⟩ => ⟨S_, .i32⟩
  | .hbm, ⟨36, _⟩ => ⟨S32768, .i32⟩
  | .hbm, ⟨37, _⟩ => ⟨S32768, .i32⟩
  | .hbm, ⟨38, _⟩ => ⟨S32768, .i32⟩
  | .hbm, ⟨39, _⟩ => ⟨S32768x1, .i32⟩
  | .hbm, ⟨40, _⟩ => ⟨S1, .i32⟩
  | .hbm, ⟨41, _⟩ => ⟨S_, .i32⟩
  | .hbm, ⟨42, _⟩ => ⟨S32768x1, .i32⟩
  | .hbm, ⟨43, _⟩ => ⟨S32768x1, .i1⟩
  | .hbm, ⟨44, _⟩ => ⟨S1x1, .i32⟩
  | .hbm, ⟨45, _⟩ => ⟨S32768x1, .i32⟩
  | .hbm, ⟨46, _⟩ => ⟨S32768x1, .i1⟩
  | .hbm, ⟨47, _⟩ => ⟨S32768x1, .i1⟩
  | .hbm, ⟨48, _⟩ => ⟨S_, .i1⟩
  | .hbm, ⟨49, _⟩ => ⟨S32768, .i1⟩
  | .hbm, ⟨50, _⟩ => ⟨S32768x64, .f32⟩
  | .hbm, ⟨51, _⟩ => ⟨S32768x64, .i1⟩
  | .hbm, ⟨52, _⟩ => ⟨S_, .f32⟩
  | .hbm, ⟨53, _⟩ => ⟨S32768x64, .f32⟩
  | .hbm, ⟨54, _⟩ => ⟨S32768x64, .f32⟩
  | .hbm, ⟨55, _⟩ => ⟨S32x32x32x64, .f32⟩
  | .hbm, ⟨56, _⟩ => ⟨S32x64x32x32, .f32⟩
  | .hbm, ⟨57, _⟩ => ⟨S32768x64, .f32⟩
  | .hbm, ⟨58, _⟩ => ⟨S32768x64, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S32768x64, .f32⟩
  | .hbm, ⟨64, _⟩ => ⟨S32768x64, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S1024, .f32⟩
  | .hbm, ⟨74, _⟩ => ⟨S_, .f32⟩
  | .hbm, ⟨75, _⟩ => ⟨S1024, .f32⟩
  | .hbm, ⟨76, _⟩ => ⟨S1024, .f32⟩
  | .hbm, ⟨77, _⟩ => ⟨S_, .f32⟩
  | .hbm, ⟨78, _⟩ => ⟨S1024, .f32⟩
  | .hbm, ⟨79, _⟩ => ⟨S1024, .f32⟩
  | .hbm, ⟨80, _⟩ => ⟨S1024, .f32⟩
  | .hbm, ⟨81, _⟩ => ⟨S1024, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S32x64x32x32, .f32⟩
  | .hbm, ⟨87, _⟩ => ⟨S32x64x32x32, .f32⟩
  | _, _ => ⟨S32x64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v17 : Ref sig .tc := ⟨.hbm, 31, rfl⟩
abbrev main_call2_c : Ref sig .tc := ⟨.hbm, 32, rfl⟩
abbrev main_call2_v0 : Ref sig .tc := ⟨.hbm, 33, rfl⟩
abbrev main_call2_v1 : Ref sig .tc := ⟨.hbm, 34, rfl⟩
abbrev main_call2_c_0 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_call2_v5 : Ref sig .tc := ⟨.hbm, 39, rfl⟩
abbrev main_call2_c_1 : Ref sig .tc := ⟨.hbm, 40, rfl⟩
abbrev main_call2_c_2 : Ref sig .tc := ⟨.hbm, 41, rfl⟩
abbrev main_call2_v6 : Ref sig .tc := ⟨.hbm, 42, rfl⟩
abbrev main_call2_v7 : Ref sig .tc := ⟨.hbm, 43, rfl⟩
abbrev main_call2_v8 : Ref sig .tc := ⟨.hbm, 44, rfl⟩
abbrev main_call2_v9 : Ref sig .tc := ⟨.hbm, 45, rfl⟩
abbrev main_call2_v10 : Ref sig .tc := ⟨.hbm, 46, rfl⟩
abbrev main_call2_v11 : Ref sig .tc := ⟨.hbm, 47, rfl⟩
abbrev main_call2_c_3 : Ref sig .tc := ⟨.hbm, 48, rfl⟩
abbrev main_call2_v12 : Ref sig .tc := ⟨.hbm, 49, rfl⟩
abbrev main_call2_v13 : Ref sig .tc := ⟨.hbm, 50, rfl⟩
abbrev main_call2_v14 : Ref sig .tc := ⟨.hbm, 51, rfl⟩
abbrev main_call2_cst : Ref sig .tc := ⟨.hbm, 52, rfl⟩
abbrev main_call2_v15 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_cst_2 : Ref sig .tc := ⟨.hbm, 59, rfl⟩
abbrev main_v23 : Ref sig .tc := ⟨.hbm, 60, rfl⟩
abbrev main_cst_3 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_cst_4 : Ref sig .tc := ⟨.hbm, 65, rfl⟩
abbrev main_v27 : Ref sig .tc := ⟨.hbm, 66, rfl⟩
abbrev main_cst_5 : Ref sig .tc := ⟨.hbm, 67, rfl⟩
abbrev main_v28 : Ref sig .tc := ⟨.hbm, 68, rfl⟩
abbrev main_cst_6 : Ref sig .tc := ⟨.hbm, 69, rfl⟩
abbrev main_v29 : Ref sig .tc := ⟨.hbm, 70, rfl⟩
abbrev main_v30 : Ref sig .tc := ⟨.hbm, 71, rfl⟩
abbrev main_cst_7 : Ref sig .tc := ⟨.hbm, 72, rfl⟩
abbrev main_v31 : Ref sig .tc := ⟨.hbm, 73, rfl⟩
abbrev main_cst_8 : Ref sig .tc := ⟨.hbm, 74, rfl⟩
abbrev main_v32 : Ref sig .tc := ⟨.hbm, 75, rfl⟩
abbrev main_v33 : Ref sig .tc := ⟨.hbm, 76, rfl⟩
abbrev main_cst_9 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_cst_10 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩

abbrev nD : Nat := 1
abbrev τ : Topo := Topo.v7x

variable {F : FTy → Type} [FloatOps F]
-- ==== Proof.Words.lean ====
/-
  The words of the row gather's loop: what the five carried words are before trip `k`, that every offset, condition and
  check the program computes from them is the plain arithmetic one, and the next trip's words. A tile is a pair
  `(c, s)`; its eight blocks of 128 rows are blocks `8 * (16 * c + s) + k`, `k < 8`.
-/
module

public import proofs.«01_k».proof.Defs
public import Idealize.ShloMosaic.Lib.Ring
public import Idealize.ShloMosaic.Lib.Ring.Trips
public import proofs.«01_k».proof.Proof.Gen.KernelIdeal
public import proofs.«01_k».proof.Proof.Gen.KernelIdeal.Skeleton

@[expose] public section

noncomputable section

namespace Cert.Proof.Tile

open Cert.KernelIdeal Cert.KernelIdeal.Gen
open Idealize.ShloMosaic

/-- The tile `(c, s)` as a point of the kernel's grid. -/
abbrev crd (c : Fin (grid1.bound 0)) (s : Fin (grid1.bound 1)) : grid1.Coords :=
  fun | 0 => c | 1 => s | ⟨_ + 2, h⟩ => absurd h (Nat.not_lt.2 (Nat.le_add_left _ _))

/-- The number of tile `(c, s)` among the thirty-two. -/
abbrev tnum (c : Fin (grid1.bound 0)) (s : Fin (grid1.bound 1)) : ℕ := 16 * c.val + s.val

/-- The five carried words before trip `n`: the next block to fetch, the block to read, the block to fill, the block
    last sent, and the step (back at zero after the last). -/
abbrev carried (n : ℕ) : BitVec 32 × BitVec 32 × BitVec 32 × BitVec 32 × BitVec 32 :=
  (BitVec.ofNat 32 (n + 1), BitVec.ofNat 32 n, BitVec.ofNat 32 n, BitVec.ofNat 32 (n - 1), BitVec.ofNat 32 (n % 8))

theorem trips_eq : k1_t1_loop.trips = 8 := by decide

theorem chk3 : ∀ k : Fin k1_t1_loop.trips, k1_chk3 (BitVec.ofNat 32 k.val) := by decide +kernel
theorem chk2 : ∀ k : Fin k1_t1_loop.trips, k1_chk2 (BitVec.ofNat 32 k.val) := by decide +kernel
theorem chk1 : ∀ (c : Fin (grid1.bound 0)) (s : Fin (grid1.bound 1)) (k : Fin k1_t1_loop.trips),
    k1_chk1 (crd c s) k (BitVec.ofNat 32 (k.val + 1)) (BitVec.ofNat 32 k.val) (BitVec.ofNat 32 k.val)
      (BitVec.ofNat 32 (k.val - 1)) (BitVec.ofNat 32 (k.val % 8)) := by decide +kernel
theorem chk5 : ∀ (c : Fin (grid1.bound 0)) (s : Fin (grid1.bound 1)), k1_chk5 (crd c s) 0#32 := by decide +kernel
theorem chk4 : k1_chk4 7#32 := by decide +kernel

theorem cond1 : ∀ (c : Fin (grid1.bound 0)) (s : Fin (grid1.bound 1)) (k : Fin k1_t1_loop.trips),
    k1_cond1 (crd c s) k (BitVec.ofNat 32 (k.val % 8)) = if k.val < 7 then 1#1 else 0#1 := by decide +kernel
theorem cond2 : ∀ (c : Fin (grid1.bound 0)) (s : Fin (grid1.bound 1)) (k : Fin k1_t1_loop.trips),
    k1_cond2 (crd c s) k (BitVec.ofNat 32 (k.val % 8)) = 1#1 := by decide +kernel
theorem cond5 : ∀ (c : Fin (grid1.bound 0)) (s : Fin (grid1.bound 1)) (k : Fin k1_t1_loop.trips),
    k1_cond5 (crd c s) k (BitVec.ofNat 32 (k.val % 8)) = 1#1 := by decide +kernel
theorem cond7 : ∀ (c : Fin (grid1.bound 0)) (s : Fin (grid1.bound 1)) (k : Fin k1_t1_loop.trips),
    k1_cond7 (crd c s) k (BitVec.ofNat 32 (k.val % 8)) = if k.val = 0 then 0#1 else 1#1 := by decide +kernel

/-! The offsets -/

theorem off1 : k1_off1 = ![(Ring.sl 2 0).val, 0, 0] := by decide +kernel
theorem off3 : k1_off3 = ![(Ring.sl 2 0).val] := by decide +kernel
theorem off2 : ∀ (c : Fin (grid1.bound 0)) (s : Fin (grid1.bound 1)),
    k1_off2 (crd c s) = ![0, 128 * (8 * tnum c s + (Ring.sl 8 0).val)] := by decide +kernel
theorem off4 : ∀ k : Fin k1_t1_loop.trips, k1_off4 (BitVec.ofNat 32 (k.val + 1)) = ![(Ring.sl 2 (k.val + 1)).val, 0, 0] := by decide +kernel
theorem off6 : ∀ k : Fin k1_t1_loop.trips, k1_off6 (BitVec.ofNat 32 (k.val + 1)) = ![(Ring.sl 2 (k.val + 1)).val] := by decide +kernel
theorem off5 : ∀ (c : Fin (grid1.bound 0)) (s : Fin (grid1.bound 1)) (k : Fin k1_t1_loop.trips),
    k1_off5 (crd c s) (BitVec.ofNat 32 (k.val % 8)) = ![0, 128 * (8 * tnum c s + (Ring.sl 8 (k.val + 1)).val)] := by decide +kernel
theorem off7 : ∀ k : Fin k1_t1_loop.trips, k1_off7 (BitVec.ofNat 32 k.val) = ![(Ring.sl 2 k.val).val, 0, 0] := by decide +kernel
theorem off8 : ∀ (c : Fin (grid1.bound 0)) (s : Fin (grid1.bound 1)) (k : Fin k1_t1_loop.trips),
    k1_off8 (crd c s) (BitVec.ofNat 32 (k.val % 8)) = ![0, 128 * (8 * tnum c s + (Ring.sl 8 k.val).val)] := by decide +kernel
theorem off9 : ∀ k : Fin k1_t1_loop.trips, k1_off9 (BitVec.ofNat 32 k.val) = ![(Ring.sl 2 k.val).val] := by decide +kernel
theorem off10 : ∀ k : Fin k1_t1_loop.trips, k1_off10 (BitVec.ofNat 32 k.val) = ![(Ring.sl 2 k.val).val, 0, 0] := by decide +kernel
theorem off11 : ∀ k : Fin k1_t1_loop.trips, k1_off11 (BitVec.ofNat 32 k.val) = ![(Ring.sl 2 k.val).val, 0, 0] := by decide +kernel
theorem off12 : ∀ k : Fin k1_t1_loop.trips, k1_off12 (BitVec.ofNat 32 k.val) = ![(Ring.sl 2 k.val).val, 0, 0] := by decide +kernel
theorem off13 : ∀ (c : Fin (grid1.bound 0)) (s : Fin (grid1.bound 1)) (k : Fin k1_t1_loop.trips),
    k1_off13 (crd c s) (BitVec.ofNat 32 (k.val % 8)) = ![128 * (8 * tnum c s + (Ring.sl 8 k.val).val), 0] := by decide +kernel
theorem off14 : ∀ k : Fin k1_t1_loop.trips, k1_off14 (BitVec.ofNat 32 k.val) = ![(Ring.sl 2 k.val).val] := by decide +kernel
/-- The block last sent: block `k - 1`, in the other slot. -/
theorem off15 : ∀ k : Fin k1_t1_loop.trips, k.val ≠ 0 → k1_off15 (BitVec.ofNat 32 (k.val - 1)) = ![(Ring.sl 2 (k.val + 1)).val, 0, 0] := by decide +kernel
theorem off16 : ∀ (c : Fin (grid1.bound 0)) (s : Fin (grid1.bound 1)) (k : Fin k1_t1_loop.trips), k.val ≠ 0 →
    k1_off16 (crd c s) (BitVec.ofNat 32 (k.val % 8)) = ![128 * (8 * tnum c s + (Ring.sl 8 (k.val - 1)).val), 0] := by decide +kernel
theorem off17 : ∀ k : Fin k1_t1_loop.trips, k.val ≠ 0 → k1_off17 (BitVec.ofNat 32 (k.val - 1)) = ![(Ring.sl 2 (k.val + 1)).val] := by decide +kernel
theorem off18 : k1_off18 7#32 = ![(Ring.sl 2 9).val, 0, 0] := by decide +kernel
theorem off19 : ∀ (c : Fin (grid1.bound 0)) (s : Fin (grid1.bound 1)),
    k1_off19 (crd c s) 0#32 = ![128 * (8 * tnum c s + (Ring.sl 8 7).val), 0] := by decide +kernel
theorem off20 : k1_off20 7#32 = ![(Ring.sl 2 9).val] := by decide +kernel
theorem off21 : k1_off21 7#32 = ![(Ring.sl 2 9).val, 0, 0] := by decide +kernel

end Cert.Proof.Tile
-- ==== Proof.Base.lean ====
/-
  The program as the launch theorem sees it, the resource algebra (the handshakes' rounds, the pipeline's rounds, the
  transfers' counters), and the tile's own names: the two slots of the index buffer and of the row buffer, the eight
  blocks of the index list and of the output, and their semaphores, with the equations that say the program's own
  spelling of each at trip `k` is that name.
-/
module

public import proofs.«01_k».proof.Proof.Words
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueIdxCore
public import Idealize.ShloMosaic.Lib.ValueLayout

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The arrays as a tile addresses them, its two buffers -/

abbrev tV : Memref sig .scVector .hbm S1032x128 .f32 := Memref.whole main_v12_scv
abbrev iV : Memref sig .scVector .hbm S1x32768 .i32 := Memref.whole main_v13_scv
abbrev oV : Memref sig .scVector .hbm S32768x128 .f32 := Memref.whole main_v14_scv
abbrev bV : Memref sig .scVector .vmem S2x1x128 .i32 := Memref.whole cc1_scoped0
abbrev rV : Memref sig .scVector .vmem S2x128x128 .f32 := Memref.whole cc1_scoped2

theorem inb_i : ∀ p : Fin 2, ∀ a, (![p.val, 0, 0] : Fin 3 → Nat) a + S1x1x128.size a ≤ S2x1x128.size a := by decide +kernel
theorem inb_o : ∀ p : Fin 2, ∀ a, (![p.val, 0, 0] : Fin 3 → Nat) a + S1x128x128.size a ≤ S2x128x128.size a := by decide +kernel
theorem inb_s : ∀ p : Fin 2, ∀ a, (![p.val] : Fin 1 → Nat) a + S1.size a ≤ S2.size a := by decide +kernel
theorem inb_b : ∀ (c : Fin (grid1.bound 0)) (s : Fin (grid1.bound 1)) (n : Fin 8),
    ∀ a, (![0, 128 * (8 * tnum c s + n.val)] : Fin 2 → Nat) a + S1x128.size a ≤ S1x32768.size a := by decide +kernel
theorem inb_w : ∀ (c : Fin (grid1.bound 0)) (s : Fin (grid1.bound 1)) (n : Fin 8),
    ∀ a, (![128 * (8 * tnum c s + n.val), 0] : Fin 2 → Nat) a + S128x128.size a ≤ S32768x128.size a := by decide +kernel

/-- Slot `p` of the index buffer, -/
def iB (p : Fin 2) : Memref sig .scVector .vmem S1x128 .i32 :=
  (bV.slice (Rect.unit (s := S2x1x128) ![p.val, 0, 0] S1x1x128.size (inb_i p)) (fun _ => rfl)).squeeze S1x128 squeezes_S1x1x128_S1x128
/-- the slot as the list of 128 row numbers the gather reads, -/
def lB (p : Fin 2) : Memref sig .scVector .vmem S128 .i32 :=
  ((iB p).slice (Rect.unit (s := S1x128) ![0, 0] S1x128.size inb_S1x128_S1x128_0_0) (fun _ => rfl)).squeeze S128 squeezes_S1x128_S128
/-- and slot `p` of the row buffer; -/
def oB (p : Fin 2) : Memref sig .scVector .vmem S128x128 .f32 :=
  (rV.slice (Rect.unit (s := S2x128x128) ![p.val, 0, 0] S1x128x128.size (inb_o p)) (fun _ => rfl)).squeeze S128x128 squeezes_S1x128x128_S128x128
/-- their fetch and send semaphores, -/
def siA (p : Fin 2) : DmaSems sig S_ := (cc1_scoped1.slice (Rect.unit (s := S2) ![p.val] S1.size (inb_s p))).squeeze S_ squeezes_S1_S_
def soA (p : Fin 2) : DmaSems sig S_ := (cc1_scoped3.slice (Rect.unit (s := S2) ![p.val] S1.size (inb_s p))).squeeze S_ squeezes_S1_S_
/-- block `n` of the tile's index list, -/
def bS (c : Fin (grid1.bound 0)) (s : Fin (grid1.bound 1)) (n : Fin 8) : Memref sig .scVector .hbm S1x128 .i32 :=
  iV.slice (Rect.unit (s := S1x32768) ![0, 128 * (8 * tnum c s + n.val)] S1x128.size (inb_b c s n)) (fun _ => rfl)
/-- block `n` of the tile's output rows, -/
def wS (c : Fin (grid1.bound 0)) (s : Fin (grid1.bound 1)) (n : Fin 8) : Memref sig .scVector .hbm S128x128 .f32 :=
  oV.slice (Rect.unit (s := S32768x128) ![128 * (8 * tnum c s + n.val), 0] S128x128.size (inb_w c s n)) (fun _ => rfl)
/-- and the whole table, as the gather names it. -/
def tS : Memref sig .scVector .hbm S1032x128 .f32 :=
  tV.slice (Rect.unit (s := S1032x128) ![0, 0] S1032x128.size inb_S1032x128_S1032x128_0_0) (fun _ => rfl)

/-! ### The program's spelling of each is that name -/

section Canon

variable (c : Fin (grid1.bound 0)) (s : Fin (grid1.bound 1)) (k : Fin k1_t1_loop.trips)

theorem iB_of {o : Fin 3 → Nat} (p : Fin 2) (ho : o = ![p.val, 0, 0]) (h : ∀ a, o a + S1x1x128.size a ≤ S2x1x128.size a) :
    (bV.slice (Rect.unit (s := S2x1x128) o S1x1x128.size h) (fun _ => rfl)).squeeze S1x128 squeezes_S1x1x128_S1x128 = iB p :=
  congrArg (fun M : Memref sig .scVector .vmem S1x1x128 .i32 => M.squeeze S1x128 squeezes_S1x1x128_S1x128)
    (Memref.slice_unit_congr _ ho _ _ (fun _ => rfl) (fun _ => rfl))
theorem oB_of {o : Fin 3 → Nat} (p : Fin 2) (ho : o = ![p.val, 0, 0]) (h : ∀ a, o a + S1x128x128.size a ≤ S2x128x128.size a) :
    (rV.slice (Rect.unit (s := S2x128x128) o S1x128x128.size h) (fun _ => rfl)).squeeze S128x128 squeezes_S1x128x128_S128x128 = oB p :=
  congrArg (fun M : Memref sig .scVector .vmem S1x128x128 .f32 => M.squeeze S128x128 squeezes_S1x128x128_S128x128)
    (Memref.slice_unit_congr _ ho _ _ (fun _ => rfl) (fun _ => rfl))
theorem siA_of {o : Fin 1 → Nat} (p : Fin 2) (ho : o = ![p.val]) (h : ∀ a, o a + S1.size a ≤ S2.size a) :
    (cc1_scoped1.slice (Rect.unit (s := S2) o S1.size h)).squeeze S_ squeezes_S1_S_ = siA p :=
  congrArg (fun A : DmaSems sig S1 => A.squeeze S_ squeezes_S1_S_) (SemArray.slice_unit_congr _ ho _ _)
theorem soA_of {o : Fin 1 → Nat} (p : Fin 2) (ho : o = ![p.val]) (h : ∀ a, o a + S1.size a ≤ S2.size a) :
    (cc1_scoped3.slice (Rect.unit (s := S2) o S1.size h)).squeeze S_ squeezes_S1_S_ = soA p :=
  congrArg (fun A : DmaSems sig S1 => A.squeeze S_ squeezes_S1_S_) (SemArray.slice_unit_congr _ ho _ _)
theorem bS_of {o : Fin 2 → Nat} (n : Fin 8) (ho : o = ![0, 128 * (8 * tnum c s + n.val)]) (h : ∀ a, o a + S1x128.size a ≤ S1x32768.size a) :
    iV.slice (Rect.unit (s := S1x32768) o S1x128.size h) (fun _ => rfl) = bS c s n :=
  Memref.slice_unit_congr _ ho _ _ (fun _ => rfl) (fun _ => rfl)
theorem wS_of {o : Fin 2 → Nat} (n : Fin 8) (ho : o = ![128 * (8 * tnum c s + n.val), 0]) (h : ∀ a, o a + S128x128.size a ≤ S32768x128.size a) :
    oV.slice (Rect.unit (s := S32768x128) o S128x128.size h) (fun _ => rfl) = wS c s n :=
  Memref.slice_unit_congr _ ho _ _ (fun _ => rfl) (fun _ => rfl)

@[sl_canon] theorem cn1 (h) : (bV.slice (Rect.unit (s := S2x1x128) k1_off1 S1x1x128.size h) (fun _ => rfl)).squeeze S1x128 squeezes_S1x1x128_S1x128 = iB (Ring.sl 2 0) := iB_of _ off1 h
@[sl_canon] theorem cn2 (h) : iV.slice (Rect.unit (s := S1x32768) (k1_off2 (crd c s)) S1x128.size h) (fun _ => rfl) = bS c s (Ring.sl 8 0) := bS_of c s _ (off2 c s) h
@[sl_canon] theorem cn3 (h) : (cc1_scoped1.slice (Rect.unit (s := S2) k1_off3 S1.size h)).squeeze S_ squeezes_S1_S_ = siA (Ring.sl 2 0) := siA_of _ off3 h
@[sl_canon] theorem cn4 (h) : (bV.slice (Rect.unit (s := S2x1x128) (k1_off4 (BitVec.ofNat 32 (k.val + 1))) S1x1x128.size h) (fun _ => rfl)).squeeze S1x128 squeezes_S1x1x128_S1x128 = iB (Ring.sl 2 (k.val + 1)) := iB_of _ (off4 k) h
@[sl_canon] theorem cn5 (h) : iV.slice (Rect.unit (s := S1x32768) (k1_off5 (crd c s) (BitVec.ofNat 32 (k.val % 8))) S1x128.size h) (fun _ => rfl) = bS c s (Ring.sl 8 (k.val + 1)) := bS_of c s _ (off5 c s k) h
@[sl_canon] theorem cn6 (h) : (cc1_scoped1.slice (Rect.unit (s := S2) (k1_off6 (BitVec.ofNat 32 (k.val + 1))) S1.size h)).squeeze S_ squeezes_S1_S_ = siA (Ring.sl 2 (k.val + 1)) := siA_of _ (off6 k) h
@[sl_canon] theorem cn7 (h) : (bV.slice (Rect.unit (s := S2x1x128) (k1_off7 (BitVec.ofNat 32 k.val)) S1x1x128.size h) (fun _ => rfl)).squeeze S1x128 squeezes_S1x1x128_S1x128 = iB (Ring.sl 2 k.val) := iB_of _ (off7 k) h
@[sl_canon] theorem cn8 (h) : iV.slice (Rect.unit (s := S1x32768) (k1_off8 (crd c s) (BitVec.ofNat 32 (k.val % 8))) S1x128.size h) (fun _ => rfl) = bS c s (Ring.sl 8 k.val) := bS_of c s _ (off8 c s k) h
@[sl_canon] theorem cn9 (h) : (cc1_scoped1.slice (Rect.unit (s := S2) (k1_off9 (BitVec.ofNat 32 k.val)) S1.size h)).squeeze S_ squeezes_S1_S_ = siA (Ring.sl 2 k.val) := siA_of _ (off9 k) h
@[sl_canon] theorem cn10 (h) : (rV.slice (Rect.unit (s := S2x128x128) (k1_off10 (BitVec.ofNat 32 k.val)) S1x128x128.size h) (fun _ => rfl)).squeeze S128x128 squeezes_S1x128x128_S128x128 = oB (Ring.sl 2 k.val) := oB_of _ (off10 k) h
@[sl_canon] theorem cn11 (h) : ((((bV.slice (Rect.unit (s := S2x1x128) (k1_off11 (BitVec.ofNat 32 k.val)) S1x1x128.size h) (fun _ => rfl)).squeeze S1x128 squeezes_S1x1x128_S1x128).slice
    (Rect.unit (s := S1x128) ![0, 0] S1x128.size inb_S1x128_S1x128_0_0) (fun _ => rfl)).squeeze S128 squeezes_S1x128_S128) = lB (Ring.sl 2 k.val) :=
  congrArg (fun M : Memref sig .scVector .vmem S1x128 .i32 => (M.slice (Rect.unit (s := S1x128) ![0, 0] S1x128.size inb_S1x128_S1x128_0_0) (fun _ => rfl)).squeeze S128 squeezes_S1x128_S128)
    (iB_of _ (off11 k) h)
@[sl_canon] theorem cn11' (p : Fin 2) : ((iB p).slice (Rect.unit (s := S1x128) ![0, 0] S1x128.size inb_S1x128_S1x128_0_0) (fun _ => rfl)).squeeze S128 squeezes_S1x128_S128 = lB p :=
  id (Eq.refl (lB p))
@[sl_canon] theorem cn11'' (h) : (bV.slice (Rect.unit (s := S2x1x128) (k1_off11 (BitVec.ofNat 32 k.val)) S1x1x128.size h) (fun _ => rfl)).squeeze S1x128 squeezes_S1x1x128_S1x128 = iB (Ring.sl 2 k.val) := iB_of _ (off11 k) h
@[sl_canon] theorem cnT : tV.slice (Rect.unit (s := S1032x128) ![0, 0] S1032x128.size inb_S1032x128_S1032x128_0_0) (fun _ => rfl) = tS := id (Eq.refl tS)
@[sl_canon] theorem cn12 (h) : (rV.slice (Rect.unit (s := S2x128x128) (k1_off12 (BitVec.ofNat 32 k.val)) S1x128x128.size h) (fun _ => rfl)).squeeze S128x128 squeezes_S1x128x128_S128x128 = oB (Ring.sl 2 k.val) := oB_of _ (off12 k) h
@[sl_canon] theorem cn13 (h) : oV.slice (Rect.unit (s := S32768x128) (k1_off13 (crd c s) (BitVec.ofNat 32 (k.val % 8))) S128x128.size h) (fun _ => rfl) = wS c s (Ring.sl 8 k.val) := wS_of c s _ (off13 c s k) h
@[sl_canon] theorem cn14 (h) : (cc1_scoped3.slice (Rect.unit (s := S2) (k1_off14 (BitVec.ofNat 32 k.val)) S1.size h)).squeeze S_ squeezes_S1_S_ = soA (Ring.sl 2 k.val) := soA_of _ (off14 k) h
@[sl_canon] theorem cn15 (hk : k.val ≠ 0) (h) : (rV.slice (Rect.unit (s := S2x128x128) (k1_off15 (BitVec.ofNat 32 (k.val - 1))) S1x128x128.size h) (fun _ => rfl)).squeeze S128x128 squeezes_S1x128x128_S128x128 = oB (Ring.sl 2 (k.val + 1)) := oB_of _ (off15 k hk) h
@[sl_canon] theorem cn16 (hk : k.val ≠ 0) (h) : oV.slice (Rect.unit (s := S32768x128) (k1_off16 (crd c s) (BitVec.ofNat 32 (k.val % 8))) S128x128.size h) (fun _ => rfl) = wS c s (Ring.sl 8 (k.val - 1)) := wS_of c s _ (off16 c s k hk) h
@[sl_canon] theorem cn17 (hk : k.val ≠ 0) (h) : (cc1_scoped3.slice (Rect.unit (s := S2) (k1_off17 (BitVec.ofNat 32 (k.val - 1))) S1.size h)).squeeze S_ squeezes_S1_S_ = soA (Ring.sl 2 (k.val + 1)) := soA_of _ (off17 k hk) h
@[sl_canon] theorem cn19 (h) : oV.slice (Rect.unit (s := S32768x128) (k1_off19 (crd c s) 0#32) S128x128.size h) (fun _ => rfl) = wS c s (Ring.sl 8 7) := wS_of c s _ (off19 c s) h
@[sl_canon] theorem cn20 (h) : (cc1_scoped3.slice (Rect.unit (s := S2) (k1_off20 7#32) S1.size h)).squeeze S_ squeezes_S1_S_ = soA (Ring.sl 2 9) := soA_of _ off20 h
@[sl_canon] theorem cn21 (h) : (rV.slice (Rect.unit (s := S2x128x128) (k1_off21 7#32) S1x128x128.size h) (fun _ => rfl)).squeeze S128x128 squeezes_S1x128x128_S128x128 = oB (Ring.sl 2 9) := oB_of _ off21 h

end Canon

/-! ## The elements each covers -/

/-- Rows `a ≤ r < b` of the output. -/
def rowsSet (a b : ℕ) : Finset S32768x128.Idx := Finset.univ.filter fun x => a ≤ (x 0).val ∧ (x 0).val < b

theorem mem_rowsSet {a b : ℕ} {x : S32768x128.Idx} : x ∈ rowsSet a b ↔ a ≤ (x 0).val ∧ (x 0).val < b := by simp [rowsSet]
theorem rowsSet_union {a b e : ℕ} (h₁ : a ≤ b) (h₂ : b ≤ e) : rowsSet a b ∪ rowsSet b e = rowsSet a e := by
  ext x; simp only [Finset.mem_union, mem_rowsSet]; omega
theorem rowsSet_disjoint {a b b' e : ℕ} (h : b ≤ b') : Disjoint (rowsSet a b) (rowsSet b' e) := by
  rw [Finset.disjoint_left]; intro x; simp only [mem_rowsSet]; omega
theorem rowsSet_empty {a b : ℕ} (h : b ≤ a) : rowsSet a b = ∅ := by
  ext x; simp only [mem_rowsSet, Finset.notMem_empty, iff_false]; omega
theorem rowsSet_all : rowsSet 0 32768 = Finset.univ := by
  ext x; simp only [mem_rowsSet, Finset.mem_univ, iff_true]; exact ⟨Nat.zero_le _, (x 0).isLt⟩

theorem wS_set (c : Fin (grid1.bound 0)) (s : Fin (grid1.bound 1)) (n : Fin 8) :
    (wS c s n).view.set = rowsSet (128 * (8 * tnum c s + n.val)) (128 * (8 * tnum c s + n.val) + 128) := by
  unfold wS
  refine (View.set_slice_whole main_v14_scv _).trans ?_
  ext x
  rw [Rect.mem_set_unit, mem_rowsSet]
  constructor
  · intro h
    exact h 0
  · rintro h a
    match a with
    | 0 => exact h
    | 1 => exact ⟨Nat.zero_le _, show (x 1).val < 0 + 128 from (Nat.zero_add 128).symm ▸ (x 1).isLt⟩

theorem tS_set : tS.view.set = Finset.univ := by
  unfold tS
  refine (View.set_slice_whole main_v12_scv _).trans ?_
  ext x
  rw [Rect.mem_set_unit]
  simp only [Finset.mem_univ, iff_true]
  intro a
  match a with
  | 0 => exact ⟨Nat.zero_le _, Nat.lt_of_lt_of_eq (x 0).isLt (Nat.zero_add _).symm⟩
  | 1 => exact ⟨Nat.zero_le _, Nat.lt_of_lt_of_eq (x 1).isLt (Nat.zero_add _).symm⟩

theorem lB_set (p : Fin 2) : (lB p).view.set = (iB p).view.set := by
  unfold lB
  refine (View.set_reshape ((iB p).slice (Rect.unit (s := S1x128) ![0, 0] S1x128.size inb_S1x128_S1x128_0_0) (fun _ => rfl)).view squeezes_S1x128_S128.numel_eq).trans ?_
  refine (View.set_slice (iB p).view _).trans ?_
  have : (Rect.unit (s := S1x128) ![0, 0] S1x128.size inb_S1x128_S1x128_0_0).set = Finset.univ := by
    ext x
    rw [Rect.mem_set_unit]
    simp only [Finset.mem_univ, iff_true]
    intro a
    match a with
    | 0 => exact ⟨Nat.zero_le _, Nat.lt_of_lt_of_eq (x 0).isLt (Nat.zero_add _).symm⟩
    | 1 => exact ⟨Nat.zero_le _, Nat.lt_of_lt_of_eq (x 1).isLt (Nat.zero_add _).symm⟩
  rw [this]; rfl

abbrev iSet (p : Fin 2) : Finset S2x1x128.Idx := (Rect.unit (s := S2x1x128) ![p.val, 0, 0] S1x1x128.size (inb_i p)).set
abbrev oSet (p : Fin 2) : Finset S2x128x128.Idx := (Rect.unit (s := S2x128x128) ![p.val, 0, 0] S1x128x128.size (inb_o p)).set
theorem iB_set (p : Fin 2) : (iB p).view.set = iSet p := by
  simp only [iB, Memref.view_squeeze, View.set_reshape]; exact View.set_slice_whole _ _
theorem oB_set (p : Fin 2) : (oB p).view.set = oSet p := by
  simp only [oB, Memref.view_squeeze, View.set_reshape]; exact View.set_slice_whole _ _
theorem iSet_disjoint (j j' : Fin 2) (hj : j ≠ j') : Disjoint (iSet j) (iSet j') :=
  Ring.lead_disjoint (s := S2x1x128) (0 : Fin 3) 1 (fun j : Fin 2 => (![j.val, 0, 0] : Fin 3 → Nat)) S1x1x128.size inb_i (fun j => by simp) rfl j j' hj
theorem iSet_cover : Finset.univ.biUnion iSet = Finset.univ :=
  Ring.lead_cover (s := S2x1x128) (0 : Fin 3) 1 (fun j : Fin 2 => (![j.val, 0, 0] : Fin 3 → Nat)) S1x1x128.size inb_i (fun j => by simp)
    (fun j a ha => by fin_cases a <;> first | exact absurd rfl ha | rfl) rfl (fun a ha => by fin_cases a <;> first | exact absurd rfl ha | rfl) rfl
theorem oSet_disjoint (j j' : Fin 2) (hj : j ≠ j') : Disjoint (oSet j) (oSet j') :=
  Ring.lead_disjoint (s := S2x128x128) (0 : Fin 3) 1 (fun j : Fin 2 => (![j.val, 0, 0] : Fin 3 → Nat)) S1x128x128.size inb_o (fun j => by simp) rfl j j' hj
theorem oSet_cover : Finset.univ.biUnion oSet = Finset.univ :=
  Ring.lead_cover (s := S2x128x128) (0 : Fin 3) 1 (fun j : Fin 2 => (![j.val, 0, 0] : Fin 3 → Nat)) S1x128x128.size inb_o (fun j => by simp)
    (fun j a ha => by fin_cases a <;> first | exact absurd rfl ha | rfl) rfl (fun a ha => by fin_cases a <;> first | exact absurd rfl ha | rfl) rfl

end Cert.Proof.Tile
-- ==== Proof.TileVal.lean ====
/-
  What a tile's copies carry: a fetched block of the index list is those 128 words; the gather's rows are the table's rows
  at them; a block sent is the output's rows. All at any element type of the table.
-/
module

public import proofs.«01_k».proof.Proof.Base

@[expose] public section

noncomputable section

namespace Cert.Proof.Tile

open Cert.KernelIdeal Cert.KernelIdeal.Gen
open Idealize.ShloMosaic
open Idealize.ShloMosaic.SparseCore (S V T rows gatherPayload)
open Idealize.ShloMosaic.ValueIdx

variable {F : FTy → Type}

/-- The row of the table that word `w` names (the first, should it name none). -/
def rowOfWord (w : BitVec 32) : Fin 1032 := Fin.ofNat 1032 w.toNat
theorem rowOfWord_val {w : BitVec 32} (h : w.toNat < 1032) : (rowOfWord w).val = w.toNat := Nat.mod_eq_of_lt h

/-- The gathered rows: row `r` is the table's row named by word `r` of the list. -/
def gath {X : Type} (ft : S1032x128.Idx → X) (fi : S1x32768.Idx → BitVec 32) : S32768x128.Idx → X := fun x =>
  ft (ix2 (n0 := 1032) (n1 := 128) (rowOfWord (fi (ix2 (n0 := 1) (n1 := 32768) 0 (x 0)))) (x 1))

theorem blk_lt (c : Fin (grid1.bound 0)) (s : Fin (grid1.bound 1)) (n : Fin 8) {k : ℕ} (hk : k < 128) :
    128 * (8 * tnum c s + n.val) + k < 32768 := by
  have h3 := inb_b c s n 1
  change 128 * (8 * tnum c s + n.val) + 128 ≤ 32768 at h3
  omega

/-- The list as the gather reads it, after block `n` landed in slot `p`: word `x` of the block. -/
theorem list_read (p : Fin 2) (c : Fin (grid1.bound 0)) (s : Fin (grid1.bound 1)) (n : Fin 8)
    (f0 : (iB p).view.ty.Contents (Elt F)) (fi : (bS c s n).view.ty.Contents (Elt F)) (x : S128.Idx) :
    (lB p).view.read (Elt F) ((iB p).view.write (Elt F) f0 ((bS c s n).view.read (Elt F) fi) Finset.univ) x
      = (fi : S1x32768.Idx → Elt F .i32) (ix2 (n0 := 1) (n1 := 32768) 0 ⟨128 * (8 * tnum c s + n.val) + (x 0).val, blk_lt c s n (x 0).isLt⟩) := by
  have h1 : (lB p).view.read (Elt F) ((iB p).view.write (Elt F) f0 ((bS c s n).view.read (Elt F) fi) Finset.univ) x
      = (iB p).view.read (Elt F) ((iB p).view.write (Elt F) f0 ((bS c s n).view.read (Elt F) fi) Finset.univ)
          ((Rect.unit (s := S1x128) ![0, 0] S1x128.size inb_S1x128_S1x128_0_0).emb (Shape.reshapeEquiv squeezes_S1x128_S128.numel_eq x)) := rfl
  have h2 : (Shape.reshapeEquiv squeezes_S1x128_S128.numel_eq x : S1x128.Idx) = ix2 (n0 := 1) (n1 := 128) 0 (x 0) := by
    refine Shape.reshapeEquiv_eq_of_rowMajor _ ?_
    rw [Shape.rowMajor_val_one, Shape.rowMajor_val_two]
    show 0 * 128 + (x 0).val = _
    omega
  refine h1.trans ((congrFun (View.read_write_univ _ _) _).trans ?_)
  rw [h2]
  refine (View.read_apply _ _).trans ((cast_eq _ _).trans (congrArg (fi : S1x32768.Idx → Elt F .i32) (funext fun a : Fin 2 => Fin.ext ?_)))
  match a with
  | 0 => rfl
  | 1 =>
    show 128 * (8 * tnum c s + n.val) + 1 * (0 + 1 * (x 0).val) = 128 * (8 * tnum c s + n.val) + (x 0).val
    omega

/-- So the list's words are in range when the index list's are. -/
theorem list_inb (p : Fin 2) (c : Fin (grid1.bound 0)) (s : Fin (grid1.bound 1)) (n : Fin 8)
    (f0 : (iB p).view.ty.Contents (Elt F)) (fi : (bS c s n).view.ty.Contents (Elt F)) (h : ∀ j : S1x32768.Idx, (fi j : BitVec 32).toNat < 1032) :
    ∀ x, ((lB p).view.read (Elt F) ((iB p).view.write (Elt F) f0 ((bS c s n).view.read (Elt F) fi) Finset.univ) x).toNat
      < S1032x128.size gathers_S1032x128_S128x128.axis := fun x =>
  (congrArg BitVec.toNat (list_read p c s n f0 fi x)).trans_lt (h _)

theorem wS_emb (c : Fin (grid1.bound 0)) (s : Fin (grid1.bound 1)) (n : Fin 8) (y : S128x128.Idx) :
    ((wS c s n).view.emb y : S32768x128.Idx) = ix2 (n0 := 32768) (n1 := 128) ⟨128 * (8 * tnum c s + n.val) + (y 0).val, blk_lt c s n (y 0).isLt⟩ (y 1) := by
  refine funext fun a : Fin 2 => Fin.ext ?_
  match a with
  | 0 =>
    show 128 * (8 * tnum c s + n.val) + 1 * (y 0).val = 128 * (8 * tnum c s + n.val) + (y 0).val
    omega
  | 1 =>
    show 0 + 1 * (y 1).val = (y 1).val
    omega

theorem tS_emb (y : S1032x128.Idx) : (tS.view.emb y : S1032x128.Idx) = y := by
  refine funext fun a : Fin 2 => Fin.ext ?_
  match a with
  | 0 =>
    show 0 + 1 * (y 0).val = (y 0).val
    omega
  | 1 =>
    show 0 + 1 * (y 1).val = (y 1).val
    omega

/-- The gathered block, sent to block `n` of the output: the output's own rows there. -/
theorem sent_eq (p : Fin 2) (c : Fin (grid1.bound 0)) (s : Fin (grid1.bound 1)) (n : Fin 8)
    (f0 : (iB p).view.ty.Contents (Elt F)) (fi : (bS c s n).view.ty.Contents (Elt F)) (ft : tS.view.ty.Contents (Elt F))
    (fb : (oB p).view.ty.Contents (Elt F)) (fo : (wS c s n).view.ty.Contents (Elt F))
    (h : ∀ j : S1x32768.Idx, (fi j : BitVec 32).toNat < 1032) (hn hin) :
    ∀ x ∈ (wS c s n).view.set, (wS c s n).view.write (Elt F) fo ((oB p).view.read (Elt F) ((oB p).view.write (Elt F) fb
      (gatherPayload gathers_S1032x128_S128x128 (tS.view.read (Elt F) ft)
        (rows ((lB p).view.read (Elt F) ((iB p).view.write (Elt F) f0 ((bS c s n).view.read (Elt F) fi) Finset.univ)) hn hin)) Finset.univ)) Finset.univ x
      = (gath ft fi : S32768x128.Idx → Elt F .f32) x := by
  intro x hx
  obtain ⟨y, -, rfl⟩ := Finset.mem_map.mp hx
  refine (View.write_emb_of_mem _ _ (Finset.mem_univ y)).trans ((cast_eq _ _).trans ((congrFun (View.read_write_univ _ _) _).trans ?_))
  unfold gatherPayload
  refine (View.read_apply _ _).trans ((cast_eq _ _).trans ?_)
  refine (congrArg ft (tS_emb _)).trans ((congrArg ft ?_).trans (congrArg (gath ft fi : S32768x128.Idx → Elt F .f32) (wS_emb c s n y)).symm)
  refine funext fun a : Fin 2 => Fin.ext ?_
  match a with
  | 0 =>
    refine (congrArg Fin.val (Shape.Gathers.idx_axis gathers_S1032x128_S128x128 _ y)).trans ?_
    refine Eq.trans ?_ (rowOfWord_val (h (ix2 (n0 := 1) (n1 := 32768) 0 ⟨128 * (8 * tnum c s + n.val) + (y 0).val, blk_lt c s n (y 0).isLt⟩))).symm
    change BitVec.toNat ((lB p).view.read (Elt F) ((iB p).view.write (Elt F) f0 ((bS c s n).view.read (Elt F) fi) Finset.univ)
      (S128.rowMajor.symm ((y gathers_S1032x128_S128x128.axis').cast hn.symm))) = _
    refine congrArg BitVec.toNat ((list_read p c s n f0 fi _).trans (congrArg fi (funext fun a : Fin 2 => Fin.ext ?_)))
    match a with
    | 0 => rfl
    | 1 =>
      show 128 * (8 * tnum c s + n.val) + _ = 128 * (8 * tnum c s + n.val) + (y 0).val
      congr 1
      have e := (Shape.rowMajor_val_one (S128.rowMajor.symm ((y 0).cast hn.symm))).symm
      refine e.trans ?_
      rw [Equiv.apply_symm_apply]; rfl
  | 1 => exact Shape.Gathers.idx_of_ne gathers_S1032x128_S128x128 _ y 1 (by decide)

end Cert.Proof.Tile
-- ==== Proof.Tile.lean ====
/-
  The row gather on a tile `(c, s)`: through its eight trips by an invariant carrying the rows already sent at the
  gathered values, the block of the list on its way in, and the block of rows on its way out.
-/
module

public import proofs.«01_k».proof.Proof.TileVal

@[expose] public section

noncomputable section

namespace Cert.Proof.Tile

open Cert.KernelIdeal Cert.KernelIdeal.Gen
open Idealize.ShloMosaic
open Idealize.ShloMosaic.SparseCore (S V T rows gatherPayload)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

variable (d : Dev nD) (c : Fin (grid1.bound 0)) (s : Fin (grid1.bound 1))

/-- The tile's thread. -/
abbrev thr : Thread nD τ := V d (c.castLE hcore1) (s.castLE hsub1)

variable (ft : Buf (Elt F) (tV.view.loc (thr d c s))) (fi : Buf (Elt F) (iV.view.loc (thr d c s))) (f0 : Buf (Elt F) (oV.view.loc (thr d c s)))
variable (qt : PosShare TreeShare) (qi : PosShare TreeShare)

/-- The share of the index list the fetches into slot `p` read at. -/
def hs (p : Fin 2) : PosShare TreeShare := if p = 0 then qi.left else qi.right

/-- Rows `a ≤ r < b` of the output at `g`. -/
abbrev rowsAt (a b : ℕ) (g : Buf (Elt F) (oV.view.loc (thr d c s))) : sProp 𝕄 :=
  oV.view.loc (thr d c s) ↦[rowsSet a b]{fullShare} g
/-- The tile's first row. -/
abbrev r0 : ℕ := 1024 * tnum c s
/-- The gathered rows, as the output's contents. -/
abbrev gV : Buf (Elt F) (oV.view.loc (thr d c s)) := (gath ft fi : S32768x128.Idx → Elt F .f32)

/-- Slot `p` of the index buffer and of the row buffer at `f`, and a half share of the whole list. -/
abbrev iP (p : Fin 2) (f : Buf (Elt F) ((iB p).view.loc (thr d c s))) : sProp 𝕄 := (iB p).view.loc (thr d c s) ↦[(iB p).view.set]{fullShare} f
abbrev oP (p : Fin 2) (f : Buf (Elt F) ((oB p).view.loc (thr d c s))) : sProp 𝕄 := (oB p).view.loc (thr d c s) ↦[(oB p).view.set]{fullShare} f
abbrev xP (p : Fin 2) : sProp 𝕄 := iV.view.loc (thr d c s) ↦{hs qi p} fi

/-- Slot `p` of the index buffer free: at anything, its semaphore at zero, its share of the list whole. -/
abbrev inFree (p : Fin 2) : sProp 𝕄 := iprop((∃ f, iP d c s p f) ∗ semVal (thr d c s, SemLoc.dma (siA p).sem) 0 ∗ xP d c s fi qi p)
/-- Block `n` of the list on its way into slot `p`. -/
abbrev inFly (p : Fin 2) (n : Fin 8) : sProp 𝕄 :=
  iprop((∃ f, Transfers.Flight countersEmb (thr d c s) (.dma (siA p).sem) (none : HIx 1) 4096
      iprop(iP d c s p ((iB p).view.write (Elt F) f ((bS c s n).view.read (Elt F) fi) Finset.univ)
        ∗ ((bS c s n).view.loc (thr d c s) ↦[(bS c s n).view.set]{hs qi p} fi)))
    ∗ (iV.view.loc (thr d c s) ↦[Finset.univ \ (bS c s n).view.set]{hs qi p} fi))
/-- Slot `p` of the row buffer free: at anything, its semaphore at zero. -/
abbrev outFree (p : Fin 2) : sProp 𝕄 := iprop((∃ f, oP d c s p f) ∗ semVal (thr d c s, SemLoc.dma (soA p).sem) 0)
/-- Block `n` of the output on its way out of slot `p`. -/
abbrev outFly (p : Fin 2) (n : Fin 8) : sProp 𝕄 :=
  iprop(∃ f, Transfers.Flight countersEmb (thr d c s) (.dma (soA p).sem) (none : HIx 1) 524288
      iprop(rowsAt d c s (128 * (8 * tnum c s + n.val)) (128 * (8 * tnum c s + n.val) + 128) (gV d c s ft fi) ∗ oP d c s p f))

/-- The five words before trip `n` (the first one matters only while a fetch is left). -/
abbrev wordsAt (n : ℕ) (acc : BitVec 32 × BitVec 32 × BitVec 32 × BitVec 32 × BitVec 32) : Prop :=
  acc.2 = (carried n).2 ∧ (n < 8 → acc.1 = (carried n).1)

/-- Before trip `n`: the five words; block `n` on its way in (before the last); the rows of the blocks before `n - 1` sent,
    block `n - 1` on its way out; the rows from block `n` on as they were. -/
def inv (O : CellTallies nD τ sig (HIx 1)) (n : Nat) (acc : BitVec 32 × BitVec 32 × BitVec 32 × BitVec 32 × BitVec 32) : sProp 𝕄 :=
  iprop(⌜wordsAt n acc⌝ ∗ Transfers.MayWaits (thr d c s) (none : HIx 1) O
    ∗ (if n < 8 then inFly d c s fi qi (Ring.sl 2 n) (Ring.sl 8 n) else inFree d c s fi qi (Ring.sl 2 n))
    ∗ inFree d c s fi qi (Ring.sl 2 (n + 1))
    ∗ rowsAt d c s (r0 c s) (r0 c s + 128 * (n - 1)) (gV d c s ft fi)
    ∗ (if n = 0 then outFree d c s (Ring.sl 2 (n + 1)) else outFly d c s ft fi (Ring.sl 2 (n + 1)) (Ring.sl 8 (n - 1)))
    ∗ rowsAt d c s (r0 c s + 128 * n) (r0 c s + 1024) f0
    ∗ outFree d c s (Ring.sl 2 n)
    ∗ (tV.view.loc (thr d c s) ↦{qt} ft)
    ∗ semVal (thr d c s, SemLoc.dma cc1_scoped4.sem) 0
    ∗ ∃ W', owes (thr d c s) O W')

theorem pts_t : (tV.view.loc (thr d c s) ↦{qt} ft : sProp 𝕄) = (tS.view.loc (thr d c s) ↦[tS.view.set]{qt} ft) := by
  rw [tS_set]; rfl

theorem pts_l (p : Fin 2) (f : Buf (Elt F) ((iB p).view.loc (thr d c s))) :
    (iP d c s p f : sProp 𝕄) = ((lB p).view.loc (thr d c s) ↦[(lB p).view.set]{fullShare} f) := by
  rw [lB_set]; rfl

theorem pts_w (n : Fin 8) (g : Buf (Elt F) (oV.view.loc (thr d c s))) :
    (rowsAt d c s (128 * (8 * tnum c s + n.val)) (128 * (8 * tnum c s + n.val) + 128) g : sProp 𝕄)
      = ((wS c s n).view.loc (thr d c s) ↦[(wS c s n).view.set]{fullShare} g) := by
  rw [wS_set]; rfl

theorem hN_gather : ∀ p : Fin 2, ∑ j, ((oB p).slice (S128x128.rowRect gathers_S1032x128_S128x128.axis' j)
    (S128x128.stride_rowRect gathers_S1032x128_S128x128.axis' j)).view.dmaCredit = 524288 := by decide +kernel

theorem credit_w : ∀ n : Fin 8, (wS c s n).view.dmaCredit = 524288 := fun _ => rfl
theorem credit_o : ∀ p : Fin 2, (oB p).view.dmaCredit = 524288 := fun _ => rfl

/-- Rows from block `n` on are block `n`'s and the rows after. -/
theorem todo_split (n : ℕ) (hn : n < 8) (g : Buf (Elt F) (oV.view.loc (thr d c s))) :
    (rowsAt d c s (r0 c s + 128 * n) (r0 c s + 1024) g : sProp 𝕄)
      ⊢ iprop(((wS c s (Ring.sl 8 n)).view.loc (thr d c s) ↦[(wS c s (Ring.sl 8 n)).view.set]{fullShare} g)
        ∗ rowsAt d c s (r0 c s + 128 * (n + 1)) (r0 c s + 1024) g) := by
  have e : 128 * (8 * tnum c s + (Ring.sl 8 n).val) = r0 c s + 128 * n := by
    rw [show (Ring.sl 8 n).val = n from Nat.mod_eq_of_lt hn]; unfold r0; ring
  rw [← pts_w, e]
  unfold rowsAt
  rw [← rowsSet_union (a := r0 c s + 128 * n) (b := r0 c s + 128 * n + 128) (e := r0 c s + 1024) (by omega) (by omega)]
  exact (pointsTo_union (rowsSet_disjoint le_rfl)).1

/-- Rows sent before block `n` and block `n`'s are the rows sent before block `n + 1`. -/
theorem done_join (n : ℕ) (hn : n < 8) (g : Buf (Elt F) (oV.view.loc (thr d c s))) :
    (iprop(rowsAt d c s (r0 c s) (r0 c s + 128 * n) g
        ∗ rowsAt d c s (128 * (8 * tnum c s + (Ring.sl 8 n).val)) (128 * (8 * tnum c s + (Ring.sl 8 n).val) + 128) g) : sProp 𝕄)
      ⊢ rowsAt d c s (r0 c s) (r0 c s + 128 * (n + 1)) g := by
  have e : 128 * (8 * tnum c s + (Ring.sl 8 n).val) = r0 c s + 128 * n := by
    rw [show (Ring.sl 8 n).val = n from Nat.mod_eq_of_lt hn]; unfold r0; ring
  rw [e]
  unfold rowsAt
  rw [← rowsSet_union (a := r0 c s) (b := r0 c s + 128 * n) (e := r0 c s + 128 * (n + 1)) (by omega) (by omega)]
  exact (pointsTo_union (rowsSet_disjoint le_rfl)).2

/-- The tile's first block's number, as the program computes it. -/
abbrev v4w : BitVec 32 := BitVec.ofNat 32 (8 * tnum c s)

/-- A fetch issued, with the rest of its share of the list, is block `n` on its way in. -/
theorem fetched (p : Fin 2) (n : Fin 8) (fn : Buf (Elt F) ((iB p).view.loc (thr d c s))) :
    (iprop(Transfers.Flight countersEmb (thr d c s) (.dma (siA p).sem) (none : HIx 1) 4096
        iprop(((iB p).view.loc (thr d c s) ↦[(iB p).view.set]{fullShare}
            (iB p).view.writes (Elt F) fn [⟨Rect.whole S1x128, (bS c s n).view.read (Elt F) fi⟩])
          ∗ ((bS c s n).view.loc (thr d c s) ↦[(bS c s n).view.set]{hs qi p} fi))
        ∗ (iV.view.loc (thr d c s) ↦[Finset.univ \ (bS c s n).view.set]{hs qi p} fi)) : sProp 𝕄)
      ⊢ inFly d c s fi qi p n := by
  iintro ⟨Hf, Hx⟩
  isplitl [Hf]
  · iexists fn
    iapply (Transfers.Flight_mono ?_) $$ Hf
    exact Entails.of_eq (congrArg (fun g => iprop(((iB p).view.loc (thr d c s) ↦[(iB p).view.set]{fullShare} g)
      ∗ ((bS c s n).view.loc (thr d c s) ↦[(bS c s n).view.set]{hs qi p} fi)))
      (View.write_univ_eq_writes_whole (iB p).view fn [] ((bS c s n).view.read (Elt F) fi)).symm)
  · iexact Hx

/-- A slot read, its semaphore at zero and its share of the list back, is free. -/
theorem freed (p : Fin 2) (n : Fin 8) (f : Buf (Elt F) ((iB p).view.loc (thr d c s))) :
    (iprop(iP d c s p f ∗ semVal (thr d c s, SemLoc.dma (siA p).sem) 0
        ∗ ((bS c s n).view.loc (thr d c s) ↦[(bS c s n).view.set]{hs qi p} fi)
        ∗ (iV.view.loc (thr d c s) ↦[Finset.univ \ (bS c s n).view.set]{hs qi p} fi)) : sProp 𝕄)
      ⊢ inFree d c s fi qi p := by
  iintro ⟨Hi, Hs, Hx, Hr⟩
  isplitl [Hi]; · iexists f; iexact Hi
  isplitl [Hs]; · iexact Hs
  iapply (pointsTo_split_subset (q := hs qi p) (ℓ := iV.view.loc (thr d c s)) (f := fi) (S := Finset.univ) (Finset.subset_univ (bS c s n).view.set)).2
  isplitl [Hx]; · iexact Hx
  iexact Hr

/-- The send of gathered rows issued is block `n` on its way out. -/
theorem sent (p : Fin 2) (n : Fin 8) (hidx : ∀ j : S1x32768.Idx, (fi j : BitVec 32).toNat < 1032)
    (fq : (iB p).view.ty.Contents (Elt F)) (fb : (oB p).view.ty.Contents (Elt F)) (hn hin)
    (g : Buf (Elt F) ((oB p).view.loc (thr d c s)))
    (hg : g = ((oB p).view.write (Elt F) fb (gatherPayload gathers_S1032x128_S128x128 (tS.view.read (Elt F) ft)
        (rows ((lB p).view.read (Elt F) ((iB p).view.write (Elt F) fq ((bS c s n).view.read (Elt F) fi) Finset.univ)) hn hin)) Finset.univ)) :
    (Transfers.Flight countersEmb (thr d c s) (.dma (soA p).sem) (none : HIx 1) 524288
        iprop(((wS c s n).view.loc (thr d c s) ↦[(wS c s n).view.set]{fullShare}
            (wS c s n).view.writes (Elt F) f0 [⟨Rect.whole S128x128, (oB p).view.read (Elt F) g⟩]) ∗ oP d c s p g) : sProp 𝕄)
      ⊢ outFly d c s ft fi p n := by
  iintro Hf
  iexists g
  iapply (Transfers.Flight_mono ?_) $$ Hf
  refine sep_mono_left (Entails.of_eq ?_)
  rw [pts_w]
  refine pointsTo_congr fun x hx => ?_
  subst hg
  exact (congrFun (View.write_univ_eq_writes_whole (wS c s n).view f0 [] _).symm x).trans
    (sent_eq (F := F) p c s n fq fi ft fb f0 hidx hn hin x hx)

/-- What a trip leaves is what the next one starts from. -/
theorem close (O : CellTallies nD τ sig (HIx 1)) (k : ℕ) (acc : BitVec 32 × BitVec 32 × BitVec 32 × BitVec 32 × BitVec 32)
    (hacc : wordsAt (k + 1) acc) (p : Fin 2) (hp : p = Ring.sl 2 k) (W' : Waits sig (HIx 1)) :
    iprop(Transfers.MayWaits (thr d c s) (none : HIx 1) O
      ∗ (if k + 1 < 8 then inFly d c s fi qi (Ring.sl 2 (k + 1)) (Ring.sl 8 (k + 1)) else inFree d c s fi qi (Ring.sl 2 (k + 1)))
      ∗ inFree d c s fi qi p
      ∗ rowsAt d c s (r0 c s) (r0 c s + 128 * k) (gV d c s ft fi)
      ∗ outFly d c s ft fi p (Ring.sl 8 k)
      ∗ rowsAt d c s (r0 c s + 128 * (k + 1)) (r0 c s + 1024) f0
      ∗ outFree d c s (Ring.sl 2 (k + 1))
      ∗ (tV.view.loc (thr d c s) ↦{qt} ft)
      ∗ semVal (thr d c s, SemLoc.dma cc1_scoped4.sem) 0
      ∗ owes (thr d c s) O W') ⊢ (inv d c s ft fi f0 qt qi O (k + 1) acc : sProp 𝕄) := by
  subst hp
  unfold inv
  rw [show Ring.sl 2 (k + 1 + 1) = Ring.sl 2 k from Ring.sl_add 2 k, if_neg (Nat.succ_ne_zero k), Nat.add_sub_cancel]
  iintro ⟨H1, H2, H3, H4, H5, H6, H7, H8, H9, H10⟩
  isplitr; · ipureintro; exact hacc
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists W'; iexact H10

set_option maxHeartbeats 4000000 in
theorem trip (O : CellTallies nD τ sig (HIx 1)) (hidx : ∀ j : S1x32768.Idx, (fi j : BitVec 32).toNat < 1032)
    (k : Fin k1_t1_loop.trips) (acc : BitVec 32 × BitVec 32 × BitVec 32 × BitVec 32 × BitVec 32) :
    inv d c s ft fi f0 qt qi O k.val acc
      ⊢ wp frame (wpE (defs₀ (F := F)) 𝒱₀ (thr d c s) none) Set.univ
          (k1_t1_body (crd c s) tV (Memref.isWhole_whole _) iV (Memref.isWhole_whole _) oV (Memref.isWhole_whole _)
            bV (Memref.isWhole_whole _) cc1_scoped1 rV (Memref.isWhole_whole _) cc1_scoped3 cc1_scoped4 (v4w c s) k acc)
          fun acc' => inv d c s ft fi f0 qt qi O (k.val + 1) acc' := by
  have hk8 : k.val < 8 := lt_of_lt_of_eq k.isLt trips_eq
  generalize hQ : (fun acc' => inv d c s ft fi f0 qt qi O (k.val + 1) acc') = Q
  unfold inv
  rw [if_pos hk8]
  iintro ⟨%hacc, #Hmw, ⟨⟨%fq, Hfl⟩, Hxr⟩, ⟨⟨%fn, Hn⟩, Hsn, Hxn⟩, Hdone, Hout, Htodo, ⟨⟨%fb, Hb⟩, Hsb⟩, Ht, Hsg, %W', HO⟩
  obtain rfl : acc = carried k.val := Prod.ext (hacc.2 hk8) hacc.1
  have hc3 := chk3 k
  have hc2 := chk2 k
  have hc1 := chk1 c s k
  have h1 := cond1 c s k
  have h2 := cond2 c s k
  have h5 := cond5 c s k
  have h7 := cond7 c s k
  have hsl : (Ring.sl 8 k.val).val = k.val := Nat.mod_eq_of_lt hk8
  unfold k1_t1_body
  by_cases hl : k.val < 7
  · rw [if_pos hl] at h1
    sl_unfold [k1_part1, k1_part2]
    sl_exec
    -- the gather
    ihave Ht' := (Entails.of_eq (pts_t (F := F) d c s ft qt)) $$ Ht
    ihave Hl := (Entails.of_eq (pts_l (F := F) d c s _ _)) $$ Hfl_dst
    iapply (SparseCore.wp_indirectGatherLocal countersEmb 𝒱₀ (thr d c s) none (hg := gathers_S1032x128_S128x128) (none : HIx 1)
      524288 (hN_gather _) (by decide) (list_inb (F := F) (Ring.sl 2 k.val) c s (Ring.sl 8 k.val) fq fi hidx)) $$ [Ht' Hb Hl Hsg]
    · isplitl [Ht']; · iexact Ht'
      isplitl [Hb]; · iexact Hb
      isplitl [Hl]; · iexact Hl
      iexact Hsg
    iintro Hg
    sl_exec
    iapply (Transfers.wp_waitLocalO countersEmb 𝒱₀ (thr d c s) none (none : HIx 1) (credit_o (Ring.sl 2 k.val))) $$ [Hg HO]
    · isplitl [Hg]; · iexact Hg
      isplitl [HO]; · iexact HO
      iapply (Transfers.MayWaits.elim (SemLoc.dma cc1_scoped4.sem)) $$ Hmw
    irw [wp_ret]
    iintro ⟨⟨Hb, Ht', Hl⟩, Hsg, HO⟩
    ihave Ht := (Entails.of_eq (pts_t (F := F) d c s ft qt).symm) $$ Ht'
    ihave Hi := (Entails.of_eq (pts_l (F := F) d c s _ _).symm) $$ Hl
    ihave Htw := (todo_split (F := F) d c s k.val hk8 _) $$ Htodo
    icases Htw with ⟨Hw, Htodo⟩
    by_cases h0 : k.val = 0
    · rw [if_pos h0] at h7
      replace h7 : ¬ k1_cond7 (crd c s) k (BitVec.ofNat 32 (k.val % 8)) = 1#1 := by rw [h7]; decide
      ihave Hout' := (Entails.of_eq (if_pos h0)) $$ Hout
      icases Hout' with ⟨⟨%fb', Hb'⟩, Hsb'⟩
      imodintro
      sl_exec
      sl_step
      subst hQ
      iapply (close (F := F) d c s ft fi f0 qt qi O k.val _ ?_ _ rfl _)
      rotate_left
      · isplitr; · iexact Hmw
        isplitl [Hsn Hxn]
        · rw [if_pos (show k.val + 1 < 8 by omega)]
          iapply (fetched (F := F) d c s fi qi _ _ fn)
          isplitl [Hsn]; · iexact Hsn
          iexact Hxn
        isplitl [Hi Hfl Hfl_src Hxr]
        · iapply (freed (F := F) d c s fi qi _ (Ring.sl 8 k.val) _)
          isplitl [Hi]; · iexact Hi
          isplitl [Hfl]; · iexact Hfl
          isplitl [Hfl_src]; · iexact Hfl_src
          iexact Hxr
        isplitl [Hdone]
        · iapply (Entails.of_eq (congrArg (fun n => rowsAt d c s (r0 c s) (r0 c s + 128 * n) (gV d c s ft fi)) (show k.val - 1 = k.val by omega)))
          iexact Hdone
        isplitl [Hsb]
        · iapply (sent (F := F) d c s ft fi f0 _ (Ring.sl 8 k.val) hidx fq fb _ _ _ rfl)
          iexact Hsb
        isplitl [Htodo]; · iexact Htodo
        isplitl [Hb' Hsb']
        · isplitl [Hb']; · iexists fb'; iexact Hb'
          iexact Hsb'
        isplitl [Ht]; · iexact Ht
        isplitl [Hsg]; · iexact Hsg
        iexact HO
      · clear * - h0 hl
        revert k; decide +kernel
    · rw [if_neg h0] at h7
      ihave Hout' := (Entails.of_eq (if_neg h0)) $$ Hout
      icases Hout' with ⟨%fb', Hout⟩
      imodintro
      sl_exec
      sl_step
      subst hQ
      iapply (close (F := F) d c s ft fi f0 qt qi O k.val _ ?_ _ rfl _)
      rotate_left
      · isplitr; · iexact Hmw
        isplitl [Hsn Hxn]
        · rw [if_pos (show k.val + 1 < 8 by omega)]
          iapply (fetched (F := F) d c s fi qi _ _ fn)
          isplitl [Hsn]; · iexact Hsn
          iexact Hxn
        isplitl [Hi Hfl Hfl_src Hxr]
        · iapply (freed (F := F) d c s fi qi _ (Ring.sl 8 k.val) _)
          isplitl [Hi]; · iexact Hi
          isplitl [Hfl]; · iexact Hfl
          isplitl [Hfl_src]; · iexact Hfl_src
          iexact Hxr
        isplitl [Hdone Hout_dst]
        · iapply (Entails.of_eq (congrArg (fun n => rowsAt d c s (r0 c s) (r0 c s + 128 * n) (gV d c s ft fi)) (show k.val - 1 + 1 = k.val by omega)))
          iapply (done_join (F := F) d c s (k.val - 1) (by omega) _)
          isplitl [Hdone]; · iexact Hdone
          iexact Hout_dst
        isplitl [Hsb]
        · iapply (sent (F := F) d c s ft fi f0 _ (Ring.sl 8 k.val) hidx fq fb _ _ _ rfl)
          iexact Hsb
        isplitl [Htodo]; · iexact Htodo
        isplitl [Hout_src Hout]
        · isplitl [Hout_src]; · iexists fb'; iexact Hout_src
          iexact Hout
        isplitl [Ht]; · iexact Ht
        isplitl [Hsg]; · iexact Hsg
        iexact HO
      · clear * - h0 hl
        revert k; decide +kernel
  · have h0 : k.val ≠ 0 := by omega
    rw [if_neg hl] at h1
    replace h1 : ¬ k1_cond1 (crd c s) k (BitVec.ofNat 32 (k.val % 8)) = 1#1 := by rw [h1]; decide
    sl_unfold [k1_part1, k1_part2]
    sl_exec
    -- the gather
    ihave Ht' := (Entails.of_eq (pts_t (F := F) d c s ft qt)) $$ Ht
    ihave Hl := (Entails.of_eq (pts_l (F := F) d c s _ _)) $$ Hfl_dst
    iapply (SparseCore.wp_indirectGatherLocal countersEmb 𝒱₀ (thr d c s) none (hg := gathers_S1032x128_S128x128) (none : HIx 1)
      524288 (hN_gather _) (by decide) (list_inb (F := F) (Ring.sl 2 k.val) c s (Ring.sl 8 k.val) fq fi hidx)) $$ [Ht' Hb Hl Hsg]
    · isplitl [Ht']; · iexact Ht'
      isplitl [Hb]; · iexact Hb
      isplitl [Hl]; · iexact Hl
      iexact Hsg
    iintro Hg
    sl_exec
    iapply (Transfers.wp_waitLocalO countersEmb 𝒱₀ (thr d c s) none (none : HIx 1) (credit_o (Ring.sl 2 k.val))) $$ [Hg HO]
    · isplitl [Hg]; · iexact Hg
      isplitl [HO]; · iexact HO
      iapply (Transfers.MayWaits.elim (SemLoc.dma cc1_scoped4.sem)) $$ Hmw
    irw [wp_ret]
    iintro ⟨⟨Hb, Ht', Hl⟩, Hsg, HO⟩
    ihave Ht := (Entails.of_eq (pts_t (F := F) d c s ft qt).symm) $$ Ht'
    ihave Hi := (Entails.of_eq (pts_l (F := F) d c s _ _).symm) $$ Hl
    ihave Htw := (todo_split (F := F) d c s k.val hk8 _) $$ Htodo
    icases Htw with ⟨Hw, Htodo⟩
    · rw [if_neg h0] at h7
      ihave Hout' := (Entails.of_eq (if_neg h0)) $$ Hout
      icases Hout' with ⟨%fb', Hout⟩
      imodintro
      sl_exec
      sl_step
      subst hQ
      iapply (close (F := F) d c s ft fi f0 qt qi O k.val _ ?_ _ rfl _)
      rotate_left
      · isplitr; · iexact Hmw
        isplitl [Hn Hsn Hxn]
        · rw [if_neg (show ¬ k.val + 1 < 8 by omega)]
          isplitl [Hn]; · iexists fn; iexact Hn
          isplitl [Hsn]; · iexact Hsn
          iexact Hxn
        isplitl [Hi Hfl Hfl_src Hxr]
        · iapply (freed (F := F) d c s fi qi _ (Ring.sl 8 k.val) _)
          isplitl [Hi]; · iexact Hi
          isplitl [Hfl]; · iexact Hfl
          isplitl [Hfl_src]; · iexact Hfl_src
          iexact Hxr
        isplitl [Hdone Hout_dst]
        · iapply (Entails.of_eq (congrArg (fun n => rowsAt d c s (r0 c s) (r0 c s + 128 * n) (gV d c s ft fi)) (show k.val - 1 + 1 = k.val by omega)))
          iapply (done_join (F := F) d c s (k.val - 1) (by omega) _)
          isplitl [Hdone]; · iexact Hdone
          iexact Hout_dst
        isplitl [Hsb]
        · iapply (sent (F := F) d c s ft fi f0 _ (Ring.sl 8 k.val) hidx fq fb _ _ _ rfl)
          iexact Hsb
        isplitl [Htodo]; · iexact Htodo
        isplitl [Hout_src Hout]
        · isplitl [Hout_src]; · iexists fb'; iexact Hout_src
          iexact Hout
        isplitl [Ht]; · iexact Ht
        isplitl [Hsg]; · iexact Hsg
        iexact HO
      · clear * - h0 hl
        revert k; decide +kernel

end Cert.Proof.Tile
-- ==== Proof.TileRun.lean ====
/-
  The row gather on a tile `(c, s)`, whole: the first fetch, the eight trips (`trip`), the last send's wait; then in the
  launch theorem's shape, the tile's own buffers and semaphores opened and packed again.
-/
module

public import proofs.«01_k».proof.Proof.Tile

@[expose] public section

noncomputable section

namespace Cert.Proof.Tile

open Cert.KernelIdeal Cert.KernelIdeal.Gen
open Idealize.ShloMosaic
open Idealize.ShloMosaic.SparseCore (S V T rows gatherPayload)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

variable (d : Dev nD) (c : Fin (grid1.bound 0)) (s : Fin (grid1.bound 1))
variable (ft : Buf (Elt F) (tV.view.loc (thr d c s))) (fi : Buf (Elt F) (iV.view.loc (thr d c s))) (f0 : Buf (Elt F) (oV.view.loc (thr d c s)))
variable (qt : PosShare TreeShare) (qi : PosShare TreeShare)

theorem iP_eq (p : Fin 2) (f) : iP (F := F) d c s p f = (bV.view.loc (thr d c s) ↦[iSet p]{fullShare} f : sProp 𝕄) := by
  unfold iP; rw [iB_set]; rfl
theorem oP_eq (p : Fin 2) (f) : oP (F := F) d c s p f = (rV.view.loc (thr d c s) ↦[oSet p]{fullShare} f : sProp 𝕄) := by
  unfold oP; rw [oB_set]; rfl
/-- Each buffer whole at anything is its two slots at something each, and back. -/
theorem islots_in : iprop(∃ f, bV.view.loc (thr d c s) ↦{fullShare} f) ⊢ (iprop((∃ f, iP d c s 0 f) ∗ ∃ f, iP d c s 1 f) : sProp 𝕄) :=
  Ring.slots2_split (U := UU) (ℓ := bV.view.loc (thr d c s)) (q := fullShare) iSet iSet_disjoint iSet_cover (iP d c s 0) (iP d c s 1) (iP_eq d c s 0) (iP_eq d c s 1)
theorem islots_out : (iprop((∃ f, iP d c s 0 f) ∗ ∃ f, iP d c s 1 f) : sProp 𝕄) ⊢ iprop(∃ f, bV.view.loc (thr d c s) ↦{fullShare} f) :=
  Ring.slots2_join (U := UU) (ℓ := bV.view.loc (thr d c s)) (q := fullShare) iSet iSet_disjoint iSet_cover (iP d c s 0) (iP d c s 1) (iP_eq d c s 0) (iP_eq d c s 1)
theorem oslots_in : iprop(∃ f, rV.view.loc (thr d c s) ↦{fullShare} f) ⊢ (iprop((∃ f, oP d c s 0 f) ∗ ∃ f, oP d c s 1 f) : sProp 𝕄) :=
  Ring.slots2_split (U := UU) (ℓ := rV.view.loc (thr d c s)) (q := fullShare) oSet oSet_disjoint oSet_cover (oP d c s 0) (oP d c s 1) (oP_eq d c s 0) (oP_eq d c s 1)
theorem oslots_out : (iprop((∃ f, oP d c s 0 f) ∗ ∃ f, oP d c s 1 f) : sProp 𝕄) ⊢ iprop(∃ f, rV.view.loc (thr d c s) ↦{fullShare} f) :=
  Ring.slots2_join (U := UU) (ℓ := rV.view.loc (thr d c s)) (q := fullShare) oSet oSet_disjoint oSet_cover (oP d c s 0) (oP d c s 1) (oP_eq d c s 0) (oP_eq d c s 1)

/-- Slot 1 free, from its parts. -/
theorem free1 (g : Buf (Elt F) ((iB 1).view.loc (thr d c s))) :
    (iprop(iP d c s 1 g ∗ semVal (thr d c s, SemLoc.dma (siA 1).sem) 0 ∗ (iV.view.loc (thr d c s) ↦{qi.right} fi)) : sProp 𝕄)
      ⊢ inFree d c s fi qi (Ring.sl 2 1) := by
  iintro ⟨Hb, Hs, Hx⟩
  isplitl [Hb]; · iexists g; iexact Hb
  isplitl [Hs]; · iexact Hs
  iexact Hx

/-- A trip at the first block's number however computed. -/
theorem trip_at (O : CellTallies nD τ sig (HIx 1)) (hidx : ∀ j : S1x32768.Idx, (fi j : BitVec 32).toNat < 1032)
    (v : BitVec 32) (hv : v = v4w c s) (k : Fin k1_t1_loop.trips) (acc : BitVec 32 × BitVec 32 × BitVec 32 × BitVec 32 × BitVec 32) :
    inv d c s ft fi f0 qt qi O k.val acc
      ⊢ wp frame (wpE (defs₀ (F := F)) 𝒱₀ (thr d c s) none) Set.univ
          (k1_t1_body (crd c s) tV (Memref.isWhole_whole _) iV (Memref.isWhole_whole _) oV (Memref.isWhole_whole _)
            bV (Memref.isWhole_whole _) cc1_scoped1 rV (Memref.isWhole_whole _) cc1_scoped3 cc1_scoped4 v k acc)
          fun acc' => inv d c s ft fi f0 qt qi O (k.val + 1) acc' := by
  subst hv; exact trip d c s ft fi f0 qt qi O hidx k acc

/-- What the first trip starts from. -/
theorem inv_start (O : CellTallies nD τ sig (HIx 1)) (W : Waits sig (HIx 1)) :
    (iprop(Transfers.MayWaits (thr d c s) (none : HIx 1) O ∗ inFly d c s fi qi (Ring.sl 2 0) (Ring.sl 8 0) ∗ inFree d c s fi qi (Ring.sl 2 1)
        ∗ rowsAt d c s (r0 c s) (r0 c s + 1024) f0
        ∗ iprop((∃ f, oP d c s 0 f) ∗ semVal (thr d c s, SemLoc.dma (soA 0).sem) 0)
        ∗ iprop((∃ f, oP d c s 1 f) ∗ semVal (thr d c s, SemLoc.dma (soA 1).sem) 0)
        ∗ (tV.view.loc (thr d c s) ↦{qt} ft) ∗ semVal (thr d c s, SemLoc.dma cc1_scoped4.sem) 0 ∗ owes (thr d c s) O W) : sProp 𝕄)
      ⊢ inv d c s ft fi f0 qt qi O 0 (1#32, 0#32, 0#32, 0#32, 0#32) := by
  unfold inv
  rw [if_pos (show 0 < 8 by omega), if_pos rfl]
  iintro ⟨H1, H2, H3, H4, H5, H6, H7, H8, H9⟩
  isplitr; · ipureintro; exact ⟨rfl, fun _ => rfl⟩
  isplitl [H1]; · iexact H1
  isplitl [H2]; · iexact H2
  isplitl [H3]; · iexact H3
  isplitr
  · unfold rowsAt
    rw [rowsSet_empty (show r0 c s + 128 * (0 - 1) ≤ r0 c s by omega), pointsTo_empty]
    iempintro
  isplitl [H6]; · iexact H6
  isplitl [H4]; · iexact H4
  isplitl [H5]; · iexact H5
  isplitl [H7]; · iexact H7
  isplitl [H8]; · iexact H8
  iexists W; iexact H9

/-- What the last trip leaves. -/
theorem inv_end (O : CellTallies nD τ sig (HIx 1)) (acc : BitVec 32 × BitVec 32 × BitVec 32 × BitVec 32 × BitVec 32) :
    inv d c s ft fi f0 qt qi O k1_t1_loop.trips acc
      ⊢ (iprop(⌜wordsAt 8 acc⌝ ∗ inFree d c s fi qi 0 ∗ inFree d c s fi qi 1
        ∗ rowsAt d c s (r0 c s) (r0 c s + 128 * 7) (gV d c s ft fi) ∗ outFly d c s ft fi (Ring.sl 2 9) (Ring.sl 8 7)
        ∗ outFree d c s 0 ∗ (tV.view.loc (thr d c s) ↦{qt} ft) ∗ semVal (thr d c s, SemLoc.dma cc1_scoped4.sem) 0
        ∗ ∃ W', owes (thr d c s) O W') : sProp 𝕄) := by
  rw [trips_eq]
  unfold inv
  rw [if_neg (show ¬ 8 < 8 by omega), if_neg (show ¬ 8 = 0 by omega)]
  iintro ⟨H0, -, H2, H3, H4, H5, -, H7, H8, H9, H10⟩
  isplitl [H0]; · iexact H0
  isplitl [H2]; · iexact H2
  isplitl [H3]; · iexact H3
  isplitl [H4]; · iexact H4
  isplitl [H5]; · iexact H5
  isplitl [H7]; · iexact H7
  isplitl [H8]; · iexact H8
  isplitl [H9]; · iexact H9
  iexact H10

/-- The five transfer counters at zero. -/
abbrev cells0 : sProp 𝕄 :=
  iprop(semVal (thr d c s, SemLoc.dma (siA 0).sem) 0 ∗ semVal (thr d c s, SemLoc.dma (siA 1).sem) 0
    ∗ semVal (thr d c s, SemLoc.dma (soA 0).sem) 0 ∗ semVal (thr d c s, SemLoc.dma (soA 1).sem) 0
    ∗ semVal (thr d c s, SemLoc.dma cc1_scoped4.sem) 0)

set_option maxHeartbeats 600000 in
/-- The kernel on tile `(c, s)`: from shares of the table and of the list, its rows of the output, its buffers and
    counters, to the same with its rows gathered. -/
theorem tile_run (O : CellTallies nD τ sig (HIx 1)) (W : Waits sig (HIx 1)) (hidx : ∀ j : S1x32768.Idx, (fi j : BitVec 32).toNat < 1032) :
    (iprop(Transfers.MayWaits (thr d c s) (none : HIx 1) O
        ∗ (tV.view.loc (thr d c s) ↦{qt} ft) ∗ (iV.view.loc (thr d c s) ↦{qi} fi)
        ∗ rowsAt d c s (r0 c s) (r0 c s + 1024) f0
        ∗ (∃ f, bV.view.loc (thr d c s) ↦{fullShare} f) ∗ (∃ f, rV.view.loc (thr d c s) ↦{fullShare} f)
        ∗ cells0 d c s ∗ owes (thr d c s) O W) : sProp 𝕄)
      ⊢ wp frame (wpE (defs₀ (F := F)) 𝒱₀ (thr d c s) none) Set.univ
          (cc1_sc_kernel (crd c s) tV (Memref.isWhole_whole _) iV (Memref.isWhole_whole _) oV (Memref.isWhole_whole _)
            bV (Memref.isWhole_whole _) cc1_scoped1 rV (Memref.isWhole_whole _) cc1_scoped3 cc1_scoped4)
          fun _ => iprop((tV.view.loc (thr d c s) ↦{qt} ft) ∗ (iV.view.loc (thr d c s) ↦{qi} fi)
            ∗ rowsAt d c s (r0 c s) (r0 c s + 1024) (gV d c s ft fi)
            ∗ (∃ f, bV.view.loc (thr d c s) ↦{fullShare} f) ∗ (∃ f, rV.view.loc (thr d c s) ↦{fullShare} f)
            ∗ cells0 d c s ∗ ∃ W', owes (thr d c s) O W') := by
  simp only [cc1_sc_kernel_eq_skeleton]; unfold cc1_sc_kernel_skel
  simp only [k1_part4_eq_skeleton]; unfold k1_part4_skel
  iintro ⟨#Hmw, Ht, Hx, Ho, Hb, Hr, ⟨Hs0, Hs1, Hq0, Hq1, Hsg⟩, HO⟩
  ihave Hbs := (islots_in (F := F) d c s) $$ Hb
  icases Hbs with ⟨⟨%g0, Hb0⟩, ⟨%g1, Hb1⟩⟩
  ihave Hrs := (oslots_in (F := F) d c s) $$ Hr
  icases Hrs with ⟨Hr0, Hr1⟩
  ihave Hxs := (pointsTo_share (PosShare.mem_left_op_right qi)).1 $$ Hx
  icases Hxs with ⟨Hx0, Hx1⟩
  ihave Hb0 := (Entails.of_eq (show (iP d c s 0 g0 : sProp 𝕄) = iP d c s (Ring.sl 2 0) g0 from rfl)) $$ Hb0
  ihave Hx0 := (Entails.of_eq (show (iV.view.loc (thr d c s) ↦{qi.left} fi : sProp 𝕄) = xP d c s fi qi (Ring.sl 2 0) from rfl)) $$ Hx0
  ihave Hs0 := (Entails.of_eq (show (semVal (thr d c s, SemLoc.dma (siA 0).sem) 0 : sProp 𝕄) = semVal (thr d c s, SemLoc.dma (siA (Ring.sl 2 0)).sem) 0 from rfl)) $$ Hs0
  ihave Hin1 := (free1 (F := F) d c s fi qi g1) $$ [Hb1 Hs1 Hx1]
  · isplitl [Hb1]; · iexact Hb1
    isplitl [Hs1]; · iexact Hs1
    iexact Hx1
  sl_unfold [k1_part3]
  sl_exec
  irw [wp_bind]
  sl_for (inv d c s ft fi f0 qt qi O) $$ [Ht Ho Hs0 Hx0 Hin1 Hr0 Hr1 Hq0 Hq1 Hsg HO]
  case region =>
    intro k acc
    refine trip_at d c s ft fi f0 qt qi O hidx _ ?_ k acc
    exact (by decide +kernel : ∀ (c : Fin (grid1.bound 0)) (s : Fin (grid1.bound 1)), tile_run.sl.v4 c s = v4w c s) c s
  · iapply (inv_start (F := F) d c s ft fi f0 qt qi O W)
    isplitr; · iexact Hmw
    isplitl [Hs0 Hx0]
    · iapply (fetched (F := F) d c s fi qi (Ring.sl 2 0) (Ring.sl 8 0) g0)
      isplitl [Hs0]; · iexact Hs0
      iexact Hx0
    isplitl [Hin1]; · iexact Hin1
    isplitl [Ho]; · iexact Ho
    isplitl [Hr0 Hq0]
    · isplitl [Hr0]; · iexact Hr0
      iexact Hq0
    isplitl [Hr1 Hq1]
    · isplitl [Hr1]; · iexact Hr1
      iexact Hq1
    isplitl [Ht]; · iexact Ht
    isplitl [Hsg]; · iexact Hsg
    iexact HO
  iintro %acc Hinv
  obtain ⟨a0, a1, a2, a3, a4⟩ := acc
  ihave Hinv' := (inv_end (F := F) d c s ft fi f0 qt qi O _) $$ Hinv
  icases Hinv' with ⟨%hw, Hi0, Hi1, Hdone, ⟨%fb, Hfl⟩, Ho0, Ht, Hsg, %W', HO⟩
  obtain ⟨rfl, rfl⟩ : a3 = 7#32 ∧ a4 = 0#32 :=
    ⟨congrArg (fun x : BitVec 32 × BitVec 32 × BitVec 32 × BitVec 32 => x.2.2.1) hw.1, congrArg (fun x : BitVec 32 × BitVec 32 × BitVec 32 × BitVec 32 => x.2.2.2) hw.1⟩
  have hc5 := chk5 c s
  have hc4 := chk4
  sl_exec
  sl_step
  icases Hi0 with ⟨Hi0, Hs0, Hx0⟩
  icases Hi1 with ⟨Hi1, Hs1, Hx1⟩
  icases Ho0 with ⟨Hr0, Hq0⟩
  isplitl [Ht]; · iexact Ht
  isplitl [Hx0 Hx1]
  · iapply (pointsTo_share (PosShare.mem_left_op_right qi)).2
    isplitl [Hx0]; · iexact Hx0
    iexact Hx1
  isplitl [Hdone Hfl_dst]
  · iapply (done_join (F := F) d c s 7 (by omega) _)
    isplitl [Hdone]; · iexact Hdone
    iexact Hfl_dst
  isplitl [Hi0 Hi1]
  · iapply (islots_out (F := F) d c s)
    isplitl [Hi0]; · iexact Hi0
    iexact Hi1
  isplitl [Hr0 Hfl_src]
  · iapply (oslots_out (F := F) d c s)
    isplitl [Hr0]; · iexact Hr0
    iexists fb; iexact Hfl_src
  isplitl [Hs0 Hs1 Hq0 Hfl Hsg]
  · isplitl [Hs0]; · iexact Hs0
    isplitl [Hs1]; · iexact Hs1
    isplitl [Hq0]; · iexact Hq0
    isplitl [Hfl]; · iexact Hfl
    iexact Hsg
  iexists _; iexact HO

/-! ## In the launch theorem's shape -/

theorem scoped_si (p : Fin 2) : (SemLoc.dma (siA p).sem : SemLoc sig).isScoped .scVector = true := by revert p; decide
theorem scoped_so (p : Fin 2) : (SemLoc.dma (soA p).sem : SemLoc sig).isScoped .scVector = true := by revert p; decide
theorem scoped_g : (SemLoc.dma cc1_scoped4.sem : SemLoc sig).isScoped .scVector = true := by decide

/-- Different counters of one thread are different. -/
theorem cell_ne {t : Thread nD τ} {a b : SemLoc sig} (h : a ≠ b) : ((t, a) : GSem nD τ sig) ≠ (t, b) := fun e => h (congrArg Prod.snd e)

theorem assoc_eq (P Q R : sProp 𝕄) : iprop((P ∗ Q) ∗ R) = iprop(P ∗ Q ∗ R) := by
  have h1 : iprop((P ∗ Q) ∗ R) ⊢ iprop(P ∗ Q ∗ R) := by
    iintro ⟨⟨H1, H2⟩, H3⟩
    isplitl [H1]; · iexact H1
    isplitl [H2]; · iexact H2
    iexact H3
  have h2 : iprop(P ∗ Q ∗ R) ⊢ iprop((P ∗ Q) ∗ R) := by
    iintro ⟨H1, H2, H3⟩
    isplitl [H1 H2]
    · isplitl [H1]; · iexact H1
      iexact H2
    iexact H3
  exact BI.Entails.antisymm h1 h2

/-- The tile's own counters at zero are the five and the rest. -/
theorem ownSems0_V : ∃ R : sProp 𝕄, (ownSems0 (thr d c s) : sProp 𝕄) = iprop(cells0 d c s ∗ R) := by
  refine ⟨bigSep ((((((ownCells (thr d c s)).erase (thr d c s, SemLoc.dma (siA 0).sem)).erase (thr d c s, SemLoc.dma (siA 1).sem)).erase
    (thr d c s, SemLoc.dma (soA 0).sem)).erase (thr d c s, SemLoc.dma (soA 1).sem)).erase (thr d c s, SemLoc.dma cc1_scoped4.sem)) fun g => semVal g 0, ?_⟩
  unfold SparseCore.Cfg.ownSems0
  rw [SparseCore.bigSep_erase' (i := (thr d c s, SemLoc.dma (siA 0).sem)) ((mem_ownCells).mpr ⟨rfl, scoped_si 0⟩),
    SparseCore.bigSep_erase' (i := (thr d c s, SemLoc.dma (siA 1).sem)) (Finset.mem_erase.mpr ⟨cell_ne (by decide), (mem_ownCells).mpr ⟨rfl, scoped_si 1⟩⟩),
    SparseCore.bigSep_erase' (i := (thr d c s, SemLoc.dma (soA 0).sem)) (Finset.mem_erase.mpr ⟨cell_ne (by decide), Finset.mem_erase.mpr ⟨cell_ne (by decide),
      (mem_ownCells).mpr ⟨rfl, scoped_so 0⟩⟩⟩),
    SparseCore.bigSep_erase' (i := (thr d c s, SemLoc.dma (soA 1).sem)) (Finset.mem_erase.mpr ⟨cell_ne (by decide), Finset.mem_erase.mpr ⟨cell_ne (by decide),
      Finset.mem_erase.mpr ⟨cell_ne (by decide), (mem_ownCells).mpr ⟨rfl, scoped_so 1⟩⟩⟩⟩),
    SparseCore.bigSep_erase' (i := (thr d c s, SemLoc.dma cc1_scoped4.sem)) (Finset.mem_erase.mpr ⟨cell_ne (by decide), Finset.mem_erase.mpr ⟨cell_ne (by decide),
      Finset.mem_erase.mpr ⟨cell_ne (by decide), Finset.mem_erase.mpr ⟨cell_ne (by decide), (mem_ownCells).mpr ⟨rfl, scoped_g⟩⟩⟩⟩⟩)]
  simp only [cells0, assoc_eq]

/-- The tile's own buffers are the two and the rest. -/
theorem ownBufs_V : ∃ R : sProp 𝕄, (ownBufs (thr d c s) : sProp 𝕄)
    = iprop((∃ f, bV.view.loc (thr d c s) ↦{fullShare} f) ∗ (∃ f, rV.view.loc (thr d c s) ↦{fullShare} f) ∗ R) := by
  refine ⟨bigSep (((ownRefs (τ := τ) (.scVector (c.castLE hcore1) (s.castLE hsub1))).erase ((Proc.scVector (c.castLE hcore1) (s.castLE hsub1)).devRef cc1_scoped0)).erase
              ((Proc.scVector (c.castLE hcore1) (s.castLE hsub1)).devRef cc1_scoped2))
              fun b => iprop(∃ f, ((d, b) : Loc nD τ sig) ↦{fullShare} f), ?_⟩
  unfold SparseCore.Cfg.ownBufs
  refine (SparseCore.bigSep_erase' (SparseCore.Cfg.mem_ownRefs_of_owner (p := Proc.scVector (c.castLE hcore1) (s.castLE hsub1))
    (b := (Proc.scVector (c.castLE hcore1) (s.castLE hsub1)).devRef cc1_scoped0) rfl)).trans ?_
  rw [SparseCore.bigSep_erase' (Finset.mem_erase.mpr ⟨fun e => absurd (Proc.devRef_injective _ e) (show (cc1_scoped2 : Ref sig .scVector) ≠ cc1_scoped0 by decide),
    SparseCore.Cfg.mem_ownRefs_of_owner (p := Proc.scVector (c.castLE hcore1) (s.castLE hsub1)) (b := (Proc.scVector (c.castLE hcore1) (s.castLE hsub1)).devRef cc1_scoped2) rfl⟩)]

/-- The kernel on tile `(c, s)` in the obligation's shape. -/
theorem tile_body (hF : (K (F := F)).Facts) (hidx : ∀ j : S1x32768.Idx, (fi j : BitVec 32).toNat < 1032)
    (O : CellTallies nD τ sig (HIx 1)) (W : Waits sig (HIx 1)) (hO : ∀ g, O g none = 0) :
    iprop(levAts (K (F := F)).L (K (F := F)).lev ∗ emp
        ∗ ((tV.view.loc (thr d c s) ↦{qt} ft) ∗ (iV.view.loc (thr d c s) ↦{qi} fi) ∗ rowsAt d c s (r0 c s) (r0 c s + 1024) f0)
        ∗ scopedBufs (thr d c s) ∗ scopedSems0 (thr d c s) ∗ owes (thr d c s) O W)
      ⊢ wp frame (wpE (defs₀ (F := F)) 𝒱₀ (thr d c s) none) Set.univ
          (cc1_sc_kernel (crd c s) tV (Memref.isWhole_whole _) iV (Memref.isWhole_whole _) oV (Memref.isWhole_whole _)
            bV (Memref.isWhole_whole _) cc1_scoped1 rV (Memref.isWhole_whole _) cc1_scoped3 cc1_scoped4)
          fun _ => iprop(((tV.view.loc (thr d c s) ↦{qt} ft) ∗ (iV.view.loc (thr d c s) ↦{qi} fi) ∗ rowsAt d c s (r0 c s) (r0 c s + 1024) (gV d c s ft fi))
            ∗ scopedBufs (thr d c s) ∗ scopedSems0 (thr d c s)
            ∗ ∃ W', ⌜∀ p ∈ W', p ∈ W ∨ p.2 = none ∨ p.2 = some (0 : Fin 1)⌝ ∗ owes (thr d c s) O W') := by
  obtain ⟨RS, hRS⟩ := ownSems0_V (F := F) d c s
  obtain ⟨RB, hRB⟩ := ownBufs_V (F := F) d c s
  rw [(K (F := F)).scopedBufs_V hF d _ _, SparseCore.Cfg.scopedSems0_V (Val := Elt F) d _ _, hRS, hRB]
  iintro ⟨#Hlv, -, ⟨Ht, Hx, Ho⟩, ⟨Hb, Hr, Hbufs⟩, ⟨HC, Hsems⟩, HO⟩
  ihave Hmw := ((K (F := F)).mayWaits_none (thr := thr d c s) hO) $$ Hlv
  iapply (wp_wand_r Idealize.ShloMosaic.frame (wpE (defs₀ (F := F)) 𝒱₀ (thr d c s) none) Set.univ)
  isplitl [Ht Hx Ho Hb Hr HC HO]
  · iapply (tile_run d c s ft fi f0 qt qi O W hidx)
    isplitr; · iexact Hmw
    isplitl [Ht]; · iexact Ht
    isplitl [Hx]; · iexact Hx
    isplitl [Ho]; · iexact Ho
    isplitl [Hb]; · iexact Hb
    isplitl [Hr]; · iexact Hr
    isplitl [HC]; · iexact HC
    iexact HO
  iintro %_ ⟨Ht, Hx, Ho, Hb, Hr, HC, %W', HO⟩
  isplitl [Ht Hx Ho]
  · isplitl [Ht]; · iexact Ht
    isplitl [Hx]; · iexact Hx
    iexact Ho
  isplitl [Hb Hr Hbufs]
  · isplitl [Hb]; · iexact Hb
    isplitl [Hr]; · iexact Hr
    iexact Hbufs
  isplitl [HC Hsems]
  · isplitl [HC]; · iexact HC
    iexact Hsems
  iexists W'; isplitr
  · ipureintro; intro p _
    rcases p.2 with _ | q
    · exact .inr (.inl rfl)
    · exact .inr (.inr (congrArg some (Subsingleton.elim q 0)))
  · iexact HO

end Cert.Proof.Tile
-- ==== Proof.Pay.lean ====
/-
  What the row gather's call hands round: a read share of the table and of the index list, and rows of the output, to
  each of the two sequencers (16384 rows each) and from them to the sixteen tiles (1024 rows each); the rows come back
  gathered.
-/
module

public import proofs.«01_k».proof.Proof.TileRun

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay)
open Idealize.ShloMosaic.Transfers (shareDrop shareTok shareTokN pointsTo_toks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

/-- The table, the index list and the gathered rows on the TensorCore. -/
abbrev tLoc (d : Dev nD) : Loc nD τ sig := (SparseCore.T d).loc main_v12
abbrev iLoc (d : Dev nD) : Loc nD τ sig := (SparseCore.T d).loc main_v13
abbrev oLoc (d : Dev nD) : Loc nD τ sig := (SparseCore.T d).loc main_v14

variable (ft : (d : Dev nD) → Buf (Elt F) (tLoc d)) (fi : (d : Dev nD) → Buf (Elt F) (iLoc d)) (f0 : (d : Dev nD) → Buf (Elt F) (oLoc d))

/-- The rows gathered. -/
abbrev gD (d : Dev nD) : Buf (Elt F) (oLoc d) := (gath (ft d) (fi d) : S32768x128.Idx → Elt F .f32)

/-- The operands at read shares `q`, and rows `a ≤ r < b` of the output at `f`. -/
abbrev holds (q : PosShare TreeShare) (a b : ℕ) (d : Dev nD) (f : Buf (Elt F) (oLoc d)) : sProp 𝕄 :=
  iprop((tLoc d ↦{q} ft d) ∗ (iLoc d ↦{q} fi d) ∗ (oLoc d ↦[rowsSet a b]{fullShare} f))
/-- What core `c` is handed, -/
abbrev coreP (c : ℕ) (d : Dev nD) (f : Buf (Elt F) (oLoc d)) : sProp 𝕄 :=
  holds ft fi (shareTokN fullShare c) (16384 * c) (16384 * c + 16384) d f
/-- and tile `i` of core `c`. -/
abbrev tileP (c i : ℕ) (d : Dev nD) (f : Buf (Elt F) (oLoc d)) : sProp 𝕄 :=
  holds ft fi (shareTokN (shareTokN fullShare c) i) (1024 * (16 * c + i)) (1024 * (16 * c + i) + 1024) d f

def P : (K (F := F)).Pay (nD := nD) (Val := Elt F) (Name := ℕ) (U := UU) where
  st := fun q d c => match q with | 0 => coreP ft fi c.val d (f0 d)
  dn := fun q d c => match q with | 0 => coreP ft fi c.val d (gD ft fi d)
  go := fun q d c i => match q with | 0 => tileP ft fi c.val i.val d (f0 d)
  td := fun q d c i => match q with | 0 => tileP ft fi c.val i.val d (gD ft fi d)
  x := fun _ _ => iprop(emp)

instance P_storable : (P (F := F) ft fi f0).IsStorable where
  st q d c := match q with | 0 => (inferInstance : BI.Storable (upEmb : UEmb _ 𝕄) (coreP ft fi c.val d (f0 d)))
  dn q d c := match q with | 0 => (inferInstance : BI.Storable (upEmb : UEmb _ 𝕄) (coreP ft fi c.val d (gD ft fi d)))
  go q d c i := match q with | 0 => (inferInstance : BI.Storable (upEmb : UEmb _ 𝕄) (tileP ft fi c.val i.val d (f0 d)))
  td q d c i := match q with | 0 => (inferInstance : BI.Storable (upEmb : UEmb _ 𝕄) (tileP ft fi c.val i.val d (gD ft fi d)))

/-! ## The task -/

theorem defs₀_vector (c : Fin τ.nSC) (s : Fin τ.nSub) :
    defs₀ (F := F) (.scVector c s) 1 () = SparseCore.onTile hcore1 hsub1 (fun c s => cc1_sc_kernel (crd c s) tV (Memref.isWhole_whole _)
      iV (Memref.isWhole_whole _) oV (Memref.isWhole_whole _) bV (Memref.isWhole_whole _) cc1_scoped1 rV (Memref.isWhole_whole _) cc1_scoped3 cc1_scoped4) ⟨⟩ c s := rfl

theorem tileObl (hidx : ∀ d (j : S1x32768.Idx), (fi d j : BitVec 32).toNat < 1032) : (K (F := F)).TileObl D 𝒱 (P ft fi f0) v₀ 0 := by
  intro d c i O W hO _ _
  simp only [show (P ft fi f0).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]
  simp only [SparseCore.onTile, hci, and_self, ↓reduceDIte]
  exact (tile_body d ⟨c.val, c.isLt⟩ ⟨i.val, i.isLt⟩ (ft d) (fi d) (f0 d) _ _ facts (hidx d) O W hO).trans (wp_mono frame _ _ fun _ => .rfl)

/-! ## The split -/

/-- Rows `a ≤ r < a + n·w` are `n` runs of `w` rows. -/
theorem rows_split (d : Dev nD) (f : Buf (Elt F) (oLoc d)) (a w n : ℕ) :
    (oLoc d ↦[rowsSet a (a + w * n)]{fullShare} f : sProp 𝕄)
      = bigSep Finset.univ fun i : Fin n => oLoc d ↦[rowsSet (a + w * i.val) (a + w * i.val + w)]{fullShare} f := by
  rw [← pointsTo_biUnion (ℓ := oLoc d) Finset.univ (fun i : Fin n => rowsSet (a + w * i.val) (a + w * i.val + w))]
  · congr 1
    ext x
    simp only [Finset.mem_biUnion, Finset.mem_univ, true_and, mem_rowsSet]
    constructor
    · rintro ⟨h1, h2⟩
      have hw : 0 < w := by
        rcases Nat.eq_zero_or_pos w with h | h
        · subst h; omega
        · exact h
      refine ⟨⟨((x 0).val - a) / w, (Nat.div_lt_iff_lt_mul hw).2 (by rw [Nat.mul_comm]; omega)⟩, ?_⟩
      have h3 := Nat.div_add_mod ((x 0).val - a) w
      have h4 := Nat.mod_lt ((x 0).val - a) hw
      show a + w * (((x 0).val - a) / w) ≤ _ ∧ _ < a + w * (((x 0).val - a) / w) + w
      omega
    · rintro ⟨i, h1, h2⟩
      have h3 : w * (i.val + 1) ≤ w * n := Nat.mul_le_mul_left w i.isLt
      rw [Nat.mul_add, Nat.mul_one] at h3
      omega
  · intro i _ j _ hij
    have hne : i.val ≠ j.val := fun e => hij (Fin.ext e)
    rcases Nat.lt_or_gt_of_ne hne with h | h
    · have h3 : w * (i.val + 1) ≤ w * j.val := Nat.mul_le_mul_left w h
      rw [Nat.mul_add, Nat.mul_one] at h3
      exact rowsSet_disjoint (by omega)
    · have h3 : w * (j.val + 1) ≤ w * i.val := Nat.mul_le_mul_left w h
      rw [Nat.mul_add, Nat.mul_one] at h3
      exact (rowsSet_disjoint (by omega)).symm

/-- A holding splits into `n` holdings of `w` rows each, remainders of the read shares kept; and back, whatever the rows hold. -/
theorem holds_split (q : PosShare TreeShare) (a w n : ℕ) (d : Dev nD) (f : Buf (Elt F) (oLoc d)) :
    holds ft fi q a (a + w * n) d f ⊢ iprop(((tLoc d ↦{shareDrop q n} ft d) ∗ (iLoc d ↦{shareDrop q n} fi d))
      ∗ bigSep Finset.univ fun i : Fin n => holds ft fi (shareTokN q i.val) (a + w * i.val) (a + w * i.val + w) d f) := by
  unfold holds
  rw [rows_split, bigSep_sep', bigSep_sep']
  iintro ⟨Ht, Hi, Ho⟩
  ihave Ht' := (pointsTo_toks (ℓ := tLoc d) (S := Finset.univ) (f := ft d) q n).1 $$ Ht
  ihave Hi' := (pointsTo_toks (ℓ := iLoc d) (S := Finset.univ) (f := fi d) q n).1 $$ Hi
  icases Ht' with ⟨Ht, Hts⟩
  icases Hi' with ⟨Hi, His⟩
  isplitl [Ht Hi]; · isplitl [Ht] <;> iassumption
  isplitl [Hts]; · iexact Hts
  isplitl [His]; · iexact His
  iexact Ho
theorem holds_join (q : PosShare TreeShare) (a w n : ℕ) (d : Dev nD) (f : Buf (Elt F) (oLoc d)) :
    iprop(((tLoc d ↦{shareDrop q n} ft d) ∗ (iLoc d ↦{shareDrop q n} fi d))
      ∗ bigSep Finset.univ fun i : Fin n => holds ft fi (shareTokN q i.val) (a + w * i.val) (a + w * i.val + w) d f) ⊢ holds ft fi q a (a + w * n) d f := by
  unfold holds
  rw [rows_split, bigSep_sep', bigSep_sep']
  iintro ⟨⟨Ht, Hi⟩, Hts, His, Ho⟩
  isplitl [Ht Hts]
  · iapply (pointsTo_toks (ℓ := tLoc d) (S := Finset.univ) (f := ft d) q n).2
    isplitl [Ht] <;> iassumption
  isplitl [Hi His]
  · iapply (pointsTo_toks (ℓ := iLoc d) (S := Finset.univ) (f := fi d) q n).2
    isplitl [Hi] <;> iassumption
  iexact Ho

theorem tileP_eq (c i : ℕ) (d : Dev nD) (f : Buf (Elt F) (oLoc d)) :
    holds ft fi (shareTokN (shareTokN fullShare c) i) (16384 * c + 1024 * i) (16384 * c + 1024 * i + 1024) d f = tileP ft fi c i d f := by
  have e : 16384 * c + 1024 * i = 1024 * (16 * c + i) := by omega
  unfold tileP; rw [e]
theorem coreP_eq (c : ℕ) (d : Dev nD) (f : Buf (Elt F) (oLoc d)) :
    holds ft fi (shareTokN fullShare c) (0 + 16384 * c) (0 + 16384 * c + 16384) d f = coreP ft fi c d f := by
  rw [Nat.zero_add]

theorem core_tiles (c : ℕ) (d : Dev nD) (f g : Buf (Elt F) (oLoc d)) :
    coreP ft fi c d f ⊢ iprop((bigSep Finset.univ fun i : Fin 16 => tileP ft fi c i.val d f)
      ∗ ((bigSep Finset.univ fun i : Fin 16 => tileP ft fi c i.val d g) -∗ coreP ft fi c d g)) := by
  have h1 := holds_split ft fi (shareTokN fullShare c) (16384 * c) 1024 16 d f
  have h2 := holds_join ft fi (shareTokN fullShare c) (16384 * c) 1024 16 d g
  simp only [tileP_eq] at h1 h2
  refine h1.trans ?_
  iintro ⟨Hk, H⟩
  isplitl [H]; · iexact H
  iintro H
  iapply h2
  isplitl [Hk] <;> iassumption

theorem all_cores (d : Dev nD) (f g : Buf (Elt F) (oLoc d)) :
    iprop((tLoc d ↦{fullShare} ft d) ∗ (iLoc d ↦{fullShare} fi d) ∗ (oLoc d ↦{fullShare} f))
      ⊢ iprop((bigSep Finset.univ fun c : Fin 2 => coreP ft fi c.val d f)
      ∗ ((bigSep Finset.univ fun c : Fin 2 => coreP ft fi c.val d g)
          -∗ iprop((tLoc d ↦{fullShare} ft d) ∗ (iLoc d ↦{fullShare} fi d) ∗ (oLoc d ↦{fullShare} g)))) := by
  have h1 := holds_split ft fi fullShare 0 16384 2 d f
  have h2 := holds_join ft fi fullShare 0 16384 2 d g
  simp only [coreP_eq] at h1 h2
  have e : rowsSet 0 (0 + 16384 * 2) = Finset.univ := rowsSet_all
  unfold holds at h1 h2
  rw [e] at h1 h2
  refine h1.trans ?_
  iintro ⟨Hk, H⟩
  isplitl [H]; · iexact H
  iintro H
  iapply h2
  isplitl [Hk] <;> iassumption

theorem vecSplit : (K (F := F)).VecSplit' (P ft fi f0) 0 := by
  intro d c
  refine (core_tiles ft fi c.val d (f0 d) (gD ft fi d)).trans ?_
  iintro H; imodintro; iexact H

end Cert.Proof.Tile

end
-- ==== Proof.TcRuns.lean ====
/-
  What the three cases of the TensorCore region's body share: its windows' blocks, where its conditions hold, where its
  outputs are idle, and the memrefs it runs on.
-/
module

public import proofs.«01_k».proof.Proof.Base
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.VecWindow
public import Idealize.ShloMosaic.Lib.WordCmp

@[expose] public section

set_option maxRecDepth 16384

noncomputable section

namespace Cert.Proof.Tc

open Cert.KernelIdeal Cert.KernelIdeal.Gen Cert.Proof.Tile
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The windows' blocks -/

variable (V : (c : Dev nD) → (b : Ref sig .tc) → Buf (Elt F) ((c : Thread nD τ).loc b))

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point. -/
theorem before0_0_of {c : Dev nD} (dat : Dat τ (Elt F) (HIx 1) ℕ UU ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point. -/
theorem before0_1_of {c : Dev nD} (dat : Dat τ (Elt F) (HIx 1) ℕ UU ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point. -/
theorem before0_2_of {c : Dev nD} (dat : Dat τ (Elt F) (HIx 1) ℕ UU ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point. -/
theorem before0_3_of {c : Dev nD} (dat : Dat τ (Elt F) (HIx 1) ℕ UU ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 16 = 15 :=
  (fun t => by
    have ht : t.val < 16 := Nat.lt_of_lt_of_eq t.isLt N_0
    have e0 : (grid0.coords t 0).val = t.val / 1 % 16 := Pipeline.Grid.coords_val t 0 (by decide) rfl
    simp only [cond0_1, k0_cond2, e0]
    word_cmp
   : ∀ t : Fin grid0.N, cond0_1 (grid0.coords t) ↔ t.val % 16 = 15)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an output stored at every point, under no condition). -/
theorem liveAt0_4 : ∀ t : Fin cfg0.N, cfg0.idle 4 (grid0.coords t) = false := fun _ => rfl
/-- Window 5 is never idle (an output stored at every point, under no condition). -/
theorem liveAt0_5 : ∀ t : Fin cfg0.N, cfg0.idle 5 (grid0.coords t) = false := fun _ => rfl
/-- At the points of case A the printed configuration (`Cfg.idle`) calls output 6 idle: the case stores nothing into it. -/
theorem idleAt0_6_A : ∀ t : Fin cfg0.N, cond0_0 (grid0.coords t) → ¬cond0_1 (grid0.coords t) → cfg0.idle 6 (grid0.coords t) = true := by decide +kernel
/-- At the points of case A the pipeline does not write output 6's block back. -/
theorem noFlush0_6_A : ∀ t : Fin cfg0.N, cond0_0 (grid0.coords t) → ¬cond0_1 (grid0.coords t) → (cfg0.win 6).flush t = false := by decide +kernel
/-- At the points of case B the printed configuration (`Cfg.idle`) calls output 6 idle: the case stores nothing into it. -/
theorem idleAt0_6_B : ∀ t : Fin cfg0.N, ¬cond0_0 (grid0.coords t) → ¬cond0_1 (grid0.coords t) → cfg0.idle 6 (grid0.coords t) = true := by decide +kernel
/-- At the points of case B the pipeline does not write output 6's block back. -/
theorem noFlush0_6_B : ∀ t : Fin cfg0.N, ¬cond0_0 (grid0.coords t) → ¬cond0_1 (grid0.coords t) → (cfg0.win 6).flush t = false := by decide +kernel
/-- At the points of case C the printed configuration (`Cfg.idle`) calls output 6 live: the case stores into it. -/
theorem liveAt0_6_C : ∀ t : Fin cfg0.N, ¬cond0_0 (grid0.coords t) → cond0_1 (grid0.coords t) → cfg0.idle 6 (grid0.coords t) = false := by decide +kernel
/-- At the points of case A the printed configuration (`Cfg.idle`) calls output 7 idle: the case stores nothing into it. -/
theorem idleAt0_7_A : ∀ t : Fin cfg0.N, cond0_0 (grid0.coords t) → ¬cond0_1 (grid0.coords t) → cfg0.idle 7 (grid0.coords t) = true := by decide +kernel
/-- At the points of case A the pipeline does not write output 7's block back. -/
theorem noFlush0_7_A : ∀ t : Fin cfg0.N, cond0_0 (grid0.coords t) → ¬cond0_1 (grid0.coords t) → (cfg0.win 7).flush t = false := by decide +kernel
/-- At the points of case B the printed configuration (`Cfg.idle`) calls output 7 idle: the case stores nothing into it. -/
theorem idleAt0_7_B : ∀ t : Fin cfg0.N, ¬cond0_0 (grid0.coords t) → ¬cond0_1 (grid0.coords t) → cfg0.idle 7 (grid0.coords t) = true := by decide +kernel
/-- At the points of case B the pipeline does not write output 7's block back. -/
theorem noFlush0_7_B : ∀ t : Fin cfg0.N, ¬cond0_0 (grid0.coords t) → ¬cond0_1 (grid0.coords t) → (cfg0.win 7).flush t = false := by decide +kernel
/-- At the points of case C the printed configuration (`Cfg.idle`) calls output 7 live: the case stores into it. -/
theorem liveAt0_7_C : ∀ t : Fin cfg0.N, ¬cond0_0 (grid0.coords t) → cond0_1 (grid0.coords t) → cfg0.idle 7 (grid0.coords t) = false := by decide +kernel

/-! ## The memrefs -/

/-- Each window's current staging memref at point `t`, spelled as the pipeline passes it (`bodyAt0`), and its wholeness. -/
abbrev ms0_0 (t : Fin cfg0.N) : Memref sig .tc .vmem S2048x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x1 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S1x1024 .f32 := Memref.whole cc0_scratch0
abbrev scM0_1 : Memref sig .tc .smem S1x1 .f32 := Memref.whole cc0_scratch1
/-- What the region finds in its scratch. -/
theorem scRest_eq (c : Dev nD) :
    (Pipeline.scopedRest (Ix := HIx 1) (Name := ℕ) (U := UU) (Lvl := ℕ) (Val := Elt F) spec0 c : sProp 𝕄)
      = iprop((∃ d, owns (c : Thread nD τ) scM0_0 fullShare d) ∗ (∃ d, owns (c : Thread nD τ) scM0_1 fullShare d)) := by
  rw [scopedRest0_eq]; simp only [scM0_0, scM0_1, owns_whole]; try rfl

end Cert.Proof.Tc

end
-- ==== Proof.TcBody.lean ====
/-
  The region's body, run in each of its three cases (the first point, a point between, the last), with what it leaves in
  every buffer.
-/
module

public import proofs.«01_k».proof.Proof.TcRuns

@[expose] public section

set_option maxRecDepth 16384

noncomputable section

namespace Cert.Proof.Tc

open Cert.KernelIdeal Cert.KernelIdeal.Gen Cert.Proof.Tile
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The one cell of a 1 × 1 array. -/
def o1 : S1x1.Idx := fun a => ⟨0, by revert a; decide⟩

/-- The running counts and the running sum after a point, from what they were before. -/
def cnt' (x0 : Vec F S2048x64 .f32) (x1 : Vec F S1024x64 .f32) (x2 : Vec F S2048x1 .f32) (x3 : Vec F S1x1024 .f32) (a : Vec F S1x1024 .f32) : Vec F S1x1024 .f32 :=
  k0_pay3 (k0_pay12 x0 x1 x2 x3) a
def sum' (x0 : Vec F S2048x64 .f32) (x1 : Vec F S1024x64 .f32) (x2 : Vec F S2048x1 .f32) (x3 : Vec F S1x1024 .f32) (a : Vec F S1x1 .f32) : Vec F S1x1 .f32 :=
  fun _ => k0_pay2 (k0_pay11 x0 x1 x2 x3) (a o1)
/-- What the first point clears them to. -/
def cnt0 : Vec F S1x1024 .f32 := k0_pay1
def sum0 : Vec F S1x1 .f32 := fun _ => Scalar.ofBits .f32 0x00000000#32

/-- A load of the whole buffer reads what it holds, -/
theorem ld {sp : Space} {s : Shape} {e : EltTy} (m : Memref sig .tc sp s e) (h : m.IsWhole) (x : s.Idx → Elt F e) {off : Fin s.rank → ℕ} (inb : ∀ a, off a + s.size a ≤ s.size a) :
    m.view.readAt (Elt F) (Rect.unit off s.size inb).toLoadRect (h.unread x) = x :=
  (View.readAt_full _ _ _).trans (h.read_unread x)

/-- and a buffer written whole is owned at what was written. -/
theorem owns_full {sp : Space} {s : Shape} {e : EltTy} (c : Dev nD) (m : Memref sig .tc sp s e) (f : m.view.ty.Contents (Elt F)) {off : Fin s.rank → ℕ}
    (inb : ∀ a, off a + s.size a ≤ s.size a) (w x : s.Idx → Elt F e) (L : List (View.Piece (Elt F) s e)) (hw : w = x) :
    (m.view.loc (c : Thread nD τ) ↦[m.view.set]{fullShare} m.view.writes (Elt F) f (⟨Rect.unit off s.size inb, w⟩ :: L) : sProp 𝕄)
      ⊢ iprop(∃ g, ⌜m.view.read (Elt F) g = x⌝ ∗ m.view.loc (c : Thread nD τ) ↦[m.view.set]{fullShare} g) := by
  subst hw
  iintro H; iexists _; isplitr
  swap; · iexact H
  ipureintro; exact View.read_writes_full _ _ _ _ _

/-- The same of a list of writes given by an equation. -/
theorem owns_list {sp : Space} {s : Shape} {e : EltTy} (c : Dev nD) (m : Memref sig .tc sp s e) (f : m.view.ty.Contents (Elt F)) {off : Fin s.rank → ℕ}
    (inb : ∀ a, off a + s.size a ≤ s.size a) (x : s.Idx → Elt F e) (L L' : List (View.Piece (Elt F) s e)) (hL : L' = ⟨Rect.unit off s.size inb, x⟩ :: L) :
    (m.view.loc (c : Thread nD τ) ↦[m.view.set]{fullShare} m.view.writes (Elt F) f L' : sProp 𝕄) ⊢ iprop(∃ g, ⌜m.view.read (Elt F) g = x⌝ ∗ m.view.loc (c : Thread nD τ) ↦[m.view.set]{fullShare} g) := by
  subst hL; exact owns_full c m f inb x x L rfl

theorem owns_unread {sp : Space} {s : Shape} {e : EltTy} (c : Dev nD) (m : Memref sig .tc sp s e) (h : m.IsWhole) (x : s.Idx → Elt F e) :
    (m.view.loc (c : Thread nD τ) ↦[m.view.set]{fullShare} h.unread x : sProp 𝕄) ⊢ iprop(∃ g, ⌜m.view.read (Elt F) g = x⌝ ∗ m.view.loc (c : Thread nD τ) ↦[m.view.set]{fullShare} g) := by
  iintro H; iexists _; isplitr
  swap; · iexact H
  ipureintro; exact h.read_unread _

theorem c4 {α β γ δ ε : Type} (f : α → β → γ → δ → ε) {a a' : α} {b b' : β} {c c' : γ} {d d' : δ} (ha : a = a') (hb : b = b') (hc : c = c') (hd : d = d') :
    f a b c d = f a' b' c' d' := by subst ha hb hc hd; rfl
theorem c2 {α β γ : Type} (f : α → β → γ) {a a' : α} {b b' : β} (ha : a = a') (hb : b = b') : f a b = f a' b' := by subst ha hb; rfl

section Runs

variable (c : Dev nD) (i : grid0.Coords) (arg1 : Memref sig .tc .vmem S2048x64 .f32) (harg1 : arg1.IsWhole) (arg2 : Memref sig .tc .vmem S1024x64 .f32) (harg2 : arg2.IsWhole)
  (arg3 : Memref sig .tc .vmem S2048x1 .f32) (harg3 : arg3.IsWhole) (arg4 : Memref sig .tc .vmem S1x1024 .f32) (harg4 : arg4.IsWhole) (arg5 : Memref sig .tc .vmem S2048x1024 .f32) (harg5 : arg5.IsWhole)
  (arg6 : Memref sig .tc .vmem S2048x1 .i32) (harg6 : arg6.IsWhole) (arg7 : Memref sig .tc .vmem S1x1 .f32) (harg7 : arg7.IsWhole) (arg8 : Memref sig .tc .vmem S1x1 .f32) (harg8 : arg8.IsWhole)
  (arg9 : Memref sig .tc .vmem S1x1024 .f32) (harg9 : arg9.IsWhole) (arg10 : Memref sig .tc .smem S1x1 .f32) (harg10 : arg10.IsWhole)
  (x0 : Vec F S2048x64 .f32) (x1 : Vec F S1024x64 .f32) (x2 : Vec F S2048x1 .f32) (x3 : Vec F S1x1024 .f32)

/-- The inputs' buffers. -/
abbrev ins : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3)

set_option maxHeartbeats 2000000 in
theorem run_A (hc0 : cond0_0 i) (hc1 : ¬cond0_1 i) (E : Set ℕ) (Q : PUnit → sProp 𝕄) :
    iprop(ins c arg1 arg2 arg3 arg4 x0 x1 x2 x3 ∗ (∃ d, owns (c : Thread nD τ) arg5 fullShare d) ∗ (∃ d, owns (c : Thread nD τ) arg6 fullShare d)
        ∗ (∃ d, owns (c : Thread nD τ) arg9 fullShare d) ∗ (∃ d, owns (c : Thread nD τ) arg10 fullShare d)
        ∗ (iprop(ins c arg1 arg2 arg3 arg4 x0 x1 x2 x3 ∗ owns (c : Thread nD τ) arg5 fullShare (k0_pay9 x0 x1 x2 x3) ∗ owns (c : Thread nD τ) arg6 fullShare (k0_pay10 x0 x1 x2 x3)
            ∗ owns (c : Thread nD τ) arg9 fullShare (cnt' x0 x1 x2 x3 cnt0) ∗ owns (c : Thread nD τ) arg10 fullShare (sum' x0 x1 x2 x3 sum0)) -∗ Q ⟨⟩))
      ⊢ wp frame (wpE (defs₀ (F := F)) Variants.none c none) E (cc0__vq_body i arg1 harg1 arg2 harg2 arg3 harg3 arg4 harg4 arg5 harg5 arg6 harg6 arg7 harg7 arg8 harg8 arg9 harg9 arg10 harg10) Q := by
  simp only [cc0__vq_body_eq_skeleton]; unfold cc0__vq_body_skel
  simp only [k0_part1_eq_skeleton]
  unfold ins owns
  iintro ⟨⟨⟨%f0, %hf0, H0⟩, ⟨%f1, %hf1, H1⟩, ⟨%f2, %hf2, H2⟩, ⟨%f3, %hf3, H3⟩⟩, ⟨%d4, %f4, -, H4⟩, ⟨%d5, %f5, -, H5⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3
  sl_exec (disch := first | sl_exact hc0 | sl_exact hc1)
  sl_step
  iapply Hk
  isplitl [H0 H1 H2 H3]
  · isplitl [H0]; · iapply (owns_unread c arg1 harg1 x0); iexact H0
    isplitl [H1]; · iapply (owns_unread c arg2 harg2 x1); iexact H1
    isplitl [H2]; · iapply (owns_unread c arg3 harg3 x2); iexact H2
    iapply (owns_unread c arg4 harg4 x3); iexact H3
  have e9 : k0_pay9 _ _ _ _ = k0_pay9 x0 x1 x2 x3 := c4 k0_pay9 (ld arg1 harg1 x0 inb_S2048x64_S2048x64_0_0) (ld arg2 harg2 x1 inb_S1024x64_S1024x64_0_0) (ld arg3 harg3 x2 inb_S2048x1_S2048x1_0_0) (ld arg4 harg4 x3 inb_S1x1024_S1x1024_0_0)
  have e10 : k0_pay10 _ _ _ _ = k0_pay10 x0 x1 x2 x3 := c4 k0_pay10 (ld arg1 harg1 x0 inb_S2048x64_S2048x64_0_0) (ld arg2 harg2 x1 inb_S1024x64_S1024x64_0_0) (ld arg3 harg3 x2 inb_S2048x1_S2048x1_0_0) (ld arg4 harg4 x3 inb_S1x1024_S1x1024_0_0)
  have e11 : k0_pay11 _ _ _ _ = k0_pay11 x0 x1 x2 x3 := c4 k0_pay11 (ld arg1 harg1 x0 inb_S2048x64_S2048x64_0_0) (ld arg2 harg2 x1 inb_S1024x64_S1024x64_0_0) (ld arg3 harg3 x2 inb_S2048x1_S2048x1_0_0) (ld arg4 harg4 x3 inb_S1x1024_S1x1024_0_0)
  have e12 : k0_pay12 _ _ _ _ = k0_pay12 x0 x1 x2 x3 := c4 k0_pay12 (ld arg1 harg1 x0 inb_S2048x64_S2048x64_0_0) (ld arg2 harg2 x1 inb_S1024x64_S1024x64_0_0) (ld arg3 harg3 x2 inb_S2048x1_S2048x1_0_0) (ld arg4 harg4 x3 inb_S1x1024_S1x1024_0_0)
  isplitl [H4]; · iapply (owns_full c arg5 f4 inb_S2048x1024_S2048x1024_0_0 _ (k0_pay9 x0 x1 x2 x3) _ e9) $$ H4
  isplitl [H5]; · iapply (owns_full c arg6 f5 inb_S2048x1_S2048x1_0_0 _ (k0_pay10 x0 x1 x2 x3) _ e10) $$ H5
  isplitl [HS0]
  · iapply (owns_full c arg9 fs0 inb_S1x1024_S1x1024_0_0 _ (cnt' x0 x1 x2 x3 cnt0) run_A.sl.HS0_1
      (by unfold run_A.sl.r_1 run_A.sl.v41 run_A.sl.HS0_1; exact c2 k0_pay3 e12 (View.readCov_full arg9.view inb_S1x1024_S1x1024_0_0 inb_S1x1024_S1x1024_0_0 _ []))) $$ HS0
  · iapply (owns_full c arg10 fs1 inb_S1x1_S1x1_0_0 _ (sum' x0 x1 x2 x3 sum0) _
      (by unfold run_A.sl.r run_A.sl.r_3; exact funext fun _ => c2 k0_pay2 e11 rfl)) $$ HS1

set_option maxHeartbeats 2000000 in
theorem run_B (hc0 : ¬cond0_0 i) (hc1 : ¬cond0_1 i) (xs0 : Vec F S1x1024 .f32) (xs1 : Vec F S1x1 .f32) (E : Set ℕ) (Q : PUnit → sProp 𝕄) :
    iprop(ins c arg1 arg2 arg3 arg4 x0 x1 x2 x3 ∗ (∃ d, owns (c : Thread nD τ) arg5 fullShare d) ∗ (∃ d, owns (c : Thread nD τ) arg6 fullShare d)
        ∗ owns (c : Thread nD τ) arg9 fullShare xs0 ∗ owns (c : Thread nD τ) arg10 fullShare xs1
        ∗ (iprop(ins c arg1 arg2 arg3 arg4 x0 x1 x2 x3 ∗ owns (c : Thread nD τ) arg5 fullShare (k0_pay9 x0 x1 x2 x3) ∗ owns (c : Thread nD τ) arg6 fullShare (k0_pay10 x0 x1 x2 x3)
            ∗ owns (c : Thread nD τ) arg9 fullShare (cnt' x0 x1 x2 x3 xs0) ∗ owns (c : Thread nD τ) arg10 fullShare (sum' x0 x1 x2 x3 xs1)) -∗ Q ⟨⟩))
      ⊢ wp frame (wpE (defs₀ (F := F)) Variants.none c none) E (cc0__vq_body i arg1 harg1 arg2 harg2 arg3 harg3 arg4 harg4 arg5 harg5 arg6 harg6 arg7 harg7 arg8 harg8 arg9 harg9 arg10 harg10) Q := by
  simp only [cc0__vq_body_eq_skeleton]; unfold cc0__vq_body_skel
  simp only [k0_part1_eq_skeleton]
  unfold ins owns
  iintro ⟨⟨⟨%f0, %hf0, H0⟩, ⟨%f1, %hf1, H1⟩, ⟨%f2, %hf2, H2⟩, ⟨%f3, %hf3, H3⟩⟩, ⟨%d4, %f4, -, H4⟩, ⟨%d5, %f5, -, H5⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg9.eq_unread hfs0; obtain rfl := harg10.eq_unread hfs1
  sl_exec (disch := first | sl_exact hc0 | sl_exact hc1)
  sl_step
  iapply Hk
  isplitl [H0 H1 H2 H3]
  · isplitl [H0]; · iapply (owns_unread c arg1 harg1 x0); iexact H0
    isplitl [H1]; · iapply (owns_unread c arg2 harg2 x1); iexact H1
    isplitl [H2]; · iapply (owns_unread c arg3 harg3 x2); iexact H2
    iapply (owns_unread c arg4 harg4 x3); iexact H3
  have e9 : k0_pay9 _ _ _ _ = k0_pay9 x0 x1 x2 x3 := c4 k0_pay9 (ld arg1 harg1 x0 inb_S2048x64_S2048x64_0_0) (ld arg2 harg2 x1 inb_S1024x64_S1024x64_0_0) (ld arg3 harg3 x2 inb_S2048x1_S2048x1_0_0) (ld arg4 harg4 x3 inb_S1x1024_S1x1024_0_0)
  have e10 : k0_pay10 _ _ _ _ = k0_pay10 x0 x1 x2 x3 := c4 k0_pay10 (ld arg1 harg1 x0 inb_S2048x64_S2048x64_0_0) (ld arg2 harg2 x1 inb_S1024x64_S1024x64_0_0) (ld arg3 harg3 x2 inb_S2048x1_S2048x1_0_0) (ld arg4 harg4 x3 inb_S1x1024_S1x1024_0_0)
  have e11 : k0_pay11 _ _ _ _ = k0_pay11 x0 x1 x2 x3 := c4 k0_pay11 (ld arg1 harg1 x0 inb_S2048x64_S2048x64_0_0) (ld arg2 harg2 x1 inb_S1024x64_S1024x64_0_0) (ld arg3 harg3 x2 inb_S2048x1_S2048x1_0_0) (ld arg4 harg4 x3 inb_S1x1024_S1x1024_0_0)
  have e12 : k0_pay12 _ _ _ _ = k0_pay12 x0 x1 x2 x3 := c4 k0_pay12 (ld arg1 harg1 x0 inb_S2048x64_S2048x64_0_0) (ld arg2 harg2 x1 inb_S1024x64_S1024x64_0_0) (ld arg3 harg3 x2 inb_S2048x1_S2048x1_0_0) (ld arg4 harg4 x3 inb_S1x1024_S1x1024_0_0)
  have es := ld arg10 harg10 xs1 inb_S1x1_S1x1_0_0
  have ec := ld arg9 harg9 xs0 inb_S1x1024_S1x1024_0_0
  isplitl [H4]; · iapply (owns_full c arg5 f4 inb_S2048x1024_S2048x1024_0_0 _ (k0_pay9 x0 x1 x2 x3) _ e9) $$ H4
  isplitl [H5]; · iapply (owns_full c arg6 f5 inb_S2048x1_S2048x1_0_0 _ (k0_pay10 x0 x1 x2 x3) _ e10) $$ H5
  isplitl [HS0]
  · iapply (owns_full c arg9 (harg9.unread xs0) inb_S1x1024_S1x1024_0_0 _ (cnt' x0 x1 x2 x3 xs0) []
      (by unfold run_B.sl.r_1; exact c2 k0_pay3 e12 ec)) $$ HS0
  · iapply (owns_full c arg10 (harg10.unread xs1) inb_S1x1_S1x1_0_0 _ (sum' x0 x1 x2 x3 xs1) []
      (by unfold run_B.sl.r run_B.sl.r_2; exact funext fun _ => c2 k0_pay2 e11 (congrFun es o1))) $$ HS1

set_option maxHeartbeats 2000000 in
theorem run_C (hc0 : ¬cond0_0 i) (hc1 : cond0_1 i) (xs0 : Vec F S1x1024 .f32) (xs1 : Vec F S1x1 .f32) (E : Set ℕ) (Q : PUnit → sProp 𝕄) :
    iprop(ins c arg1 arg2 arg3 arg4 x0 x1 x2 x3 ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d) ∗ owns (c : Thread nD τ) arg9 fullShare xs0 ∗ owns (c : Thread nD τ) arg10 fullShare xs1
        ∗ (iprop(ins c arg1 arg2 arg3 arg4 x0 x1 x2 x3 ∗ owns (c : Thread nD τ) arg5 fullShare (k0_pay9 x0 x1 x2 x3) ∗ owns (c : Thread nD τ) arg6 fullShare (k0_pay10 x0 x1 x2 x3)
            ∗ owns (c : Thread nD τ) arg7 fullShare (k0_pay4 (sum' x0 x1 x2 x3 xs1 o1)) ∗ owns (c : Thread nD τ) arg8 fullShare (k0_pay5 (cnt' x0 x1 x2 x3 xs0))
            ∗ owns (c : Thread nD τ) arg9 fullShare (cnt' x0 x1 x2 x3 xs0) ∗ owns (c : Thread nD τ) arg10 fullShare (sum' x0 x1 x2 x3 xs1)) -∗ Q ⟨⟩))
      ⊢ wp frame (wpE (defs₀ (F := F)) Variants.none c none) E (cc0__vq_body i arg1 harg1 arg2 harg2 arg3 harg3 arg4 harg4 arg5 harg5 arg6 harg6 arg7 harg7 arg8 harg8 arg9 harg9 arg10 harg10) Q := by
  simp only [cc0__vq_body_eq_skeleton]; unfold cc0__vq_body_skel
  simp only [k0_part1_eq_skeleton]
  unfold ins owns
  iintro ⟨⟨⟨%f0, %hf0, H0⟩, ⟨%f1, %hf1, H1⟩, ⟨%f2, %hf2, H2⟩, ⟨%f3, %hf3, H3⟩⟩, ⟨%d4, %f4, -, H4⟩, ⟨%d5, %f5, -, H5⟩, ⟨%d6, %f6, -, H6⟩, ⟨%d7, %f7, -, H7⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg9.eq_unread hfs0; obtain rfl := harg10.eq_unread hfs1
  sl_exec (disch := first | sl_exact hc0 | sl_exact hc1)
  sl_step
  iapply Hk
  isplitl [H0 H1 H2 H3]
  · isplitl [H0]; · iapply (owns_unread c arg1 harg1 x0); iexact H0
    isplitl [H1]; · iapply (owns_unread c arg2 harg2 x1); iexact H1
    isplitl [H2]; · iapply (owns_unread c arg3 harg3 x2); iexact H2
    iapply (owns_unread c arg4 harg4 x3); iexact H3
  have e9 : k0_pay9 _ _ _ _ = k0_pay9 x0 x1 x2 x3 := c4 k0_pay9 (ld arg1 harg1 x0 inb_S2048x64_S2048x64_0_0) (ld arg2 harg2 x1 inb_S1024x64_S1024x64_0_0) (ld arg3 harg3 x2 inb_S2048x1_S2048x1_0_0) (ld arg4 harg4 x3 inb_S1x1024_S1x1024_0_0)
  have e10 : k0_pay10 _ _ _ _ = k0_pay10 x0 x1 x2 x3 := c4 k0_pay10 (ld arg1 harg1 x0 inb_S2048x64_S2048x64_0_0) (ld arg2 harg2 x1 inb_S1024x64_S1024x64_0_0) (ld arg3 harg3 x2 inb_S2048x1_S2048x1_0_0) (ld arg4 harg4 x3 inb_S1x1024_S1x1024_0_0)
  have e11 : k0_pay11 _ _ _ _ = k0_pay11 x0 x1 x2 x3 := c4 k0_pay11 (ld arg1 harg1 x0 inb_S2048x64_S2048x64_0_0) (ld arg2 harg2 x1 inb_S1024x64_S1024x64_0_0) (ld arg3 harg3 x2 inb_S2048x1_S2048x1_0_0) (ld arg4 harg4 x3 inb_S1x1024_S1x1024_0_0)
  have e12 : k0_pay12 _ _ _ _ = k0_pay12 x0 x1 x2 x3 := c4 k0_pay12 (ld arg1 harg1 x0 inb_S2048x64_S2048x64_0_0) (ld arg2 harg2 x1 inb_S1024x64_S1024x64_0_0) (ld arg3 harg3 x2 inb_S2048x1_S2048x1_0_0) (ld arg4 harg4 x3 inb_S1x1024_S1x1024_0_0)
  have es := ld arg10 harg10 xs1 inb_S1x1_S1x1_0_0
  have ec := ld arg9 harg9 xs0 inb_S1x1024_S1x1024_0_0
  isplitl [H4]; · iapply (owns_full c arg5 f4 inb_S2048x1024_S2048x1024_0_0 _ (k0_pay9 x0 x1 x2 x3) _ e9) $$ H4
  isplitl [H5]; · iapply (owns_full c arg6 f5 inb_S2048x1_S2048x1_0_0 _ (k0_pay10 x0 x1 x2 x3) _ e10) $$ H5
  isplitl [H6]
  · iapply (owns_full c arg7 f6 inb_S1x1_S1x1_0_0 _ (k0_pay4 (sum' x0 x1 x2 x3 xs1 o1)) [] (by unfold run_C.sl.r_3 run_C.sl.r_2 ; exact congrArg k0_pay4 (c2 k0_pay2 e11 (congrFun es o1)))) $$ H6
  isplitl [H7]
  · iapply (owns_full c arg8 f7 inb_S1x1_S1x1_0_0 _ (k0_pay5 (cnt' x0 x1 x2 x3 xs0)) []
      (by unfold run_C.sl.v54 run_C.sl.HS0_1; exact congrArg k0_pay5 ((View.readCov_full arg9.view inb_S1x1024_S1x1024_0_0 inb_S1x1024_S1x1024_0_0 _ []).trans (c2 k0_pay3 e12 ec)))) $$ H7
  isplitl [HS0]
  · iapply (owns_list c arg9 (harg9.unread xs0) inb_S1x1024_S1x1024_0_0 (cnt' x0 x1 x2 x3 xs0) [] _
      (by unfold run_C.sl.HS0_1; exact congrArg (fun w => [(⟨Rect.unit ![0, 0] S1x1024.size inb_S1x1024_S1x1024_0_0, w⟩ : View.Piece (Elt F) S1x1024 .f32)]) (c2 k0_pay3 e12 ec))) $$ HS0
  · iapply (owns_full c arg10 (harg10.unread xs1) inb_S1x1_S1x1_0_0 _ (sum' x0 x1 x2 x3 xs1) []
      (by unfold run_C.sl.r run_C.sl.r_2; exact funext fun _ => c2 k0_pay2 e11 (congrFun es o1))) $$ HS1

end Runs

end Cert.Proof.Tc

end
-- ==== Proof.TcFrame.lean ====
/-
  The TensorCore region: what its scratch and its outputs hold after each point, the pipeline's proof data, and the body
  obligation. Throughout, the TensorCore owes the SparseCore's handshakes what it owed before the region.
-/
module

public import proofs.«01_k».proof.Proof.TcBody

@[expose] public section

set_option maxRecDepth 16384

noncomputable section

namespace Cert.Proof.Tc

open Cert.KernelIdeal Cert.KernelIdeal.Gen Cert.Proof.Tile
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

variable (V : (c : Dev nD) → (b : Ref sig .tc) → Buf (Elt F) ((c : Thread nD τ).loc b))

/-- The counts and the sum after point `n`. -/
def st (c : Dev nD) : (n : ℕ) → n < cfg0.N → Vec F S1x1024 .f32 × Vec F S1x1 .f32
  | 0, hn => (cnt' (iblk V c 0 ⟨0, hn⟩) (iblk V c 1 ⟨0, hn⟩) (iblk V c 2 ⟨0, hn⟩) (iblk V c 3 ⟨0, hn⟩) cnt0,
      sum' (iblk V c 0 ⟨0, hn⟩) (iblk V c 1 ⟨0, hn⟩) (iblk V c 2 ⟨0, hn⟩) (iblk V c 3 ⟨0, hn⟩) sum0)
  | n + 1, hn => (cnt' (iblk V c 0 ⟨n + 1, hn⟩) (iblk V c 1 ⟨n + 1, hn⟩) (iblk V c 2 ⟨n + 1, hn⟩) (iblk V c 3 ⟨n + 1, hn⟩) (st c n (Nat.lt_of_succ_lt hn)).1,
      sum' (iblk V c 0 ⟨n + 1, hn⟩) (iblk V c 1 ⟨n + 1, hn⟩) (iblk V c 2 ⟨n + 1, hn⟩) (iblk V c 3 ⟨n + 1, hn⟩) (st c n (Nat.lt_of_succ_lt hn)).2)

theorem st_zero (c : Dev nD) (t : Fin cfg0.N) (h : t.val = 0) :
    st V c t.val t.isLt = (cnt' (iblk V c 0 t) (iblk V c 1 t) (iblk V c 2 t) (iblk V c 3 t) cnt0, sum' (iblk V c 0 t) (iblk V c 1 t) (iblk V c 2 t) (iblk V c 3 t) sum0) := by
  obtain ⟨n, hn⟩ := t
  cases n with
  | zero => rfl
  | succ n => exact absurd h (Nat.succ_ne_zero n)

theorem st_pos (c : Dev nD) (t : Fin cfg0.N) (h : t.val ≠ 0) :
    st V c t.val t.isLt = (cnt' (iblk V c 0 t) (iblk V c 1 t) (iblk V c 2 t) (iblk V c 3 t) (st V c (t.val - 1) (Nat.lt_of_le_of_lt (Nat.sub_le _ _) t.isLt)).1,
      sum' (iblk V c 0 t) (iblk V c 1 t) (iblk V c 2 t) (iblk V c 3 t) (st V c (t.val - 1) (Nat.lt_of_le_of_lt (Nat.sub_le _ _) t.isLt)).2) := by
  obtain ⟨n, hn⟩ := t
  cases n with
  | zero => exact absurd rfl h
  | succ n => rfl

/-- What the region's scratch holds before point `n`. -/
def PhiS (c : Dev nD) : (n : ℕ) → n ≤ cfg0.N → sProp 𝕄
  | 0, _ => Pipeline.scopedRest (Ix := HIx 1) (Name := ℕ) (U := UU) (Lvl := ℕ) (Val := Elt F) spec0 c
  | n + 1, hn => iprop(owns (c : Thread nD τ) scM0_0 fullShare ((st V c n hn).1) ∗ owns (c : Thread nD τ) scM0_1 fullShare ((st V c n hn).2))

theorem PhiS_zero (c : Dev nD) (n : ℕ) (h : n ≤ cfg0.N) (hz : n = 0) : PhiS V c n h = Pipeline.scopedRest spec0 c := by
  subst hz; rfl
theorem PhiS_succ (c : Dev nD) (n : ℕ) (hn : n < cfg0.N) :
    PhiS V c (n + 1) hn = iprop(owns (c : Thread nD τ) scM0_0 fullShare ((st V c n hn).1) ∗ owns (c : Thread nD τ) scM0_1 fullShare ((st V c n hn).2)) := rfl
theorem PhiS_pos (c : Dev nD) (n : ℕ) (h : n ≤ cfg0.N) (hz : n ≠ 0) :
    PhiS V c n h = iprop(owns (c : Thread nD τ) scM0_0 fullShare ((st V c (n - 1) (by omega)).1) ∗ owns (c : Thread nD τ) scM0_1 fullShare ((st V c (n - 1) (by omega)).2)) := by
  cases n with
  | zero => exact absurd rfl hz
  | succ n => rfl

/-- The pipeline's proof data. -/
def dats (_ : Fin 1) (c : Dev nD) : Dat τ (Elt F) (HIx 1) ℕ UU ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => k0_pay9 (iblk V c 0 t) (iblk V c 1 t) (iblk V c 2 t) (iblk V c 3 t)
    | ⟨5, _⟩ => k0_pay10 (iblk V c 0 t) (iblk V c 1 t) (iblk V c 2 t) (iblk V c 3 t)
    | ⟨6, _⟩ => k0_pay4 ((st V c t.val t.isLt).2 o1)
    | ⟨7, _⟩ => k0_pay5 (st V c t.val t.isLt).1
  Φ t := PhiS V c t.val (Nat.le_of_lt_succ t.isLt)
  q _ := fullShare
  owed _ := (K (F := F)).Otc c 0
  recorded _ := {p | (K (F := F)).lev (SparseCore.T c, p.1) p.2 ≤ 0}

theorem A_eq (c : Dev nD) (w : Fin cfg0.W) : (dats V 0 c).A w = V c (Pipeline.arrRef spec0 w) := by
  dsimp only [dats]
theorem PhiS_castSucc (c : Dev nD) (t : Fin cfg0.N) :
    (dats V 0 c).Φ t.castSucc = PhiS V c t.val (Nat.le_of_lt t.isLt) := by
  dsimp only [dats]; exact Pipeline.Dat.Φ_castSucc (PhiS V c) t

theorem after0_0 (c : Dev nD) (t : Fin cfg0.N) : (dats V 0 c).after 0 t = iblk V c 0 t := by dsimp only [dats]
theorem after0_1 (c : Dev nD) (t : Fin cfg0.N) : (dats V 0 c).after 1 t = iblk V c 1 t := by dsimp only [dats]
theorem after0_2 (c : Dev nD) (t : Fin cfg0.N) : (dats V 0 c).after 2 t = iblk V c 2 t := by dsimp only [dats]
theorem after0_3 (c : Dev nD) (t : Fin cfg0.N) : (dats V 0 c).after 3 t = iblk V c 3 t := by dsimp only [dats]
theorem after0_4 (c : Dev nD) (t : Fin cfg0.N) : (dats V 0 c).after 4 t = k0_pay9 (iblk V c 0 t) (iblk V c 1 t) (iblk V c 2 t) (iblk V c 3 t) := by dsimp only [dats]
theorem after0_5 (c : Dev nD) (t : Fin cfg0.N) : (dats V 0 c).after 5 t = k0_pay10 (iblk V c 0 t) (iblk V c 1 t) (iblk V c 2 t) (iblk V c 3 t) := by dsimp only [dats]
theorem after0_6 (c : Dev nD) (t : Fin cfg0.N) : (dats V 0 c).after 6 t = k0_pay4 ((st V c t.val t.isLt).2 o1) := by dsimp only [dats]
theorem after0_7 (c : Dev nD) (t : Fin cfg0.N) : (dats V 0 c).after 7 t = k0_pay5 (st V c t.val t.isLt).1 := by dsimp only [dats]

theorem before0_0 (c : Dev nD) (t : Fin cfg0.N) (d) : (dats V 0 c).before 0 t d = iblk V c 0 t :=
  before0_0_of V (dats V 0 c) (A_eq V c 0) (after0_0 V c) t d
theorem before0_1 (c : Dev nD) (t : Fin cfg0.N) (d) : (dats V 0 c).before 1 t d = iblk V c 1 t :=
  before0_1_of V (dats V 0 c) (A_eq V c 1) (after0_1 V c) t d
theorem before0_2 (c : Dev nD) (t : Fin cfg0.N) (d) : (dats V 0 c).before 2 t d = iblk V c 2 t :=
  before0_2_of V (dats V 0 c) (A_eq V c 2) (after0_2 V c) t d
theorem before0_3 (c : Dev nD) (t : Fin cfg0.N) (d) : (dats V 0 c).before 3 t d = iblk V c 3 t :=
  before0_3_of V (dats V 0 c) (A_eq V c 3) (after0_3 V c) t d

/-- What the body is called with at point `t`, -/
def bodyPre (c : Dev nD) (t : Fin cfg0.N) : sProp 𝕄 :=
  iprop((dats V 0 c).Φ t.castSucc ∗ (dats V 0 c).owesAt none t.castSucc
    ∗ (∃ d, owns (c : Thread nD τ) (ms0_0 t) fullShare ((dats V 0 c).before 0 t d))
    ∗ (∃ d, owns (c : Thread nD τ) (ms0_1 t) fullShare ((dats V 0 c).before 1 t d))
    ∗ (∃ d, owns (c : Thread nD τ) (ms0_2 t) fullShare ((dats V 0 c).before 2 t d))
    ∗ (∃ d, owns (c : Thread nD τ) (ms0_3 t) fullShare ((dats V 0 c).before 3 t d))
    ∗ (∃ d, owns (c : Thread nD τ) (ms0_4 t) fullShare ((dats V 0 c).before 4 t d))
    ∗ (∃ d, owns (c : Thread nD τ) (ms0_5 t) fullShare ((dats V 0 c).before 5 t d))
    ∗ (∃ d, owns (c : Thread nD τ) (ms0_6 t) fullShare ((dats V 0 c).before 6 t d))
    ∗ (∃ d, owns (c : Thread nD τ) (ms0_7 t) fullShare ((dats V 0 c).before 7 t d)))

/-- and what it returns. -/
def bodyPost (c : Dev nD) (t : Fin cfg0.N) : sProp 𝕄 :=
  iprop((dats V 0 c).Φ t.succ ∗ (dats V 0 c).owesAt none t.succ
    ∗ (dats V 0 c).leavesExact 0 t ∗ (dats V 0 c).leavesExact 1 t ∗ (dats V 0 c).leavesExact 2 t ∗ (dats V 0 c).leavesExact 3 t
    ∗ (dats V 0 c).leavesExact 4 t ∗ (dats V 0 c).leavesExact 5 t ∗ (dats V 0 c).leavesExact 6 t ∗ (dats V 0 c).leavesExact 7 t)

theorem leaves0 (c : Dev nD) (t : Fin cfg0.N) : (dats V 0 c).leavesExact 0 t = owns (c : Thread nD τ) (ms0_0 t) fullShare (iblk V c 0 t) := by
  unfold Dat.leavesExact; rw [liveAt0_0 t, after0_0]
theorem leaves1 (c : Dev nD) (t : Fin cfg0.N) : (dats V 0 c).leavesExact 1 t = owns (c : Thread nD τ) (ms0_1 t) fullShare (iblk V c 1 t) := by
  unfold Dat.leavesExact; rw [liveAt0_1 t, after0_1]
theorem leaves2 (c : Dev nD) (t : Fin cfg0.N) : (dats V 0 c).leavesExact 2 t = owns (c : Thread nD τ) (ms0_2 t) fullShare (iblk V c 2 t) := by
  unfold Dat.leavesExact; rw [liveAt0_2 t, after0_2]
theorem leaves3 (c : Dev nD) (t : Fin cfg0.N) : (dats V 0 c).leavesExact 3 t = owns (c : Thread nD τ) (ms0_3 t) fullShare (iblk V c 3 t) := by
  unfold Dat.leavesExact; rw [liveAt0_3 t, after0_3]
theorem leaves4 (c : Dev nD) (t : Fin cfg0.N) : (dats V 0 c).leavesExact 4 t = owns (c : Thread nD τ) (ms0_4 t) fullShare (k0_pay9 (iblk V c 0 t) (iblk V c 1 t) (iblk V c 2 t) (iblk V c 3 t)) := by
  unfold Dat.leavesExact; rw [liveAt0_4 t, after0_4]
theorem leaves5 (c : Dev nD) (t : Fin cfg0.N) : (dats V 0 c).leavesExact 5 t = owns (c : Thread nD τ) (ms0_5 t) fullShare (k0_pay10 (iblk V c 0 t) (iblk V c 1 t) (iblk V c 2 t) (iblk V c 3 t)) := by
  unfold Dat.leavesExact; rw [liveAt0_5 t, after0_5]

set_option maxHeartbeats 3200000 in
/-- The body at any point. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3]
  rw [show (dats V 0 c).owesAt none t.succ = (dats V 0 c).owesAt none t.castSucc from rfl]
  rw [show (dats V 0 c).Φ t.succ = PhiS V c (t.val + 1) t.isLt from rfl, PhiS_succ]
  rw [leaves0, leaves1, leaves2, leaves3, leaves4, leaves5, PhiS_castSucc V c t]
  have hN : t.val < 16 := lt_of_lt_of_eq t.isLt (show cfg0.N = 16 from N_0)
  by_cases h0 : t.val = 0
  · have hc0 := (hcond0_0 t).mpr (by omega)
    have hc1 : ¬cond0_1 (grid0.coords t) := fun h => by have := (hcond0_1 t).mp h; omega
    rw [Dat.leavesExact_idle (dats V 0 c) 6 t (idleAt0_6_A t hc0 hc1) (noFlush0_6_A t hc0 hc1)]
    rw [Dat.leavesExact_idle (dats V 0 c) 7 t (idleAt0_7_A t hc0 hc1) (noFlush0_7_A t hc0 hc1)]
    rw [PhiS_zero V c _ _ h0, scRest_eq, st_zero V c t h0]
    iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_A c (grid0.coords t) _ _ _ _ _ _ _ _ _ _ _ _ _ _ _ _ _ _ _ _ (iblk V c 0 t) (iblk V c 1 t) (iblk V c 2 t) (iblk V c 3 t) hc0 hc1 Set.univ _)
    isplitl [H0 H1 H2 H3]
    · isplitl [H0]; · iexact H0
      isplitl [H1]; · iexact H1
      isplitl [H2]; · iexact H2
      iexact H3
    isplitl [H4]; · iexists _; iexact H4
    isplitl [H5]; · iexists _; iexact H5
    isplitl [HS0]; · iexact HS0
    isplitl [HS1]; · iexact HS1
    iintro ⟨⟨H0, H1, H2, H3⟩, H4, H5, HS0, HS1⟩
    isplitl [HS0 HS1]
    · isplitl [HS0]; · iexact HS0
      iexact HS1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7
  · have hc0 : ¬cond0_0 (grid0.coords t) := fun h => by have := (hcond0_0 t).mp h; omega
    rw [PhiS_pos V c _ _ h0]
    by_cases h1 : t.val = 15
    · have hc1 := (hcond0_1 t).mpr (by omega)
      rw [show (dats V 0 c).leavesExact 6 t = owns (c : Thread nD τ) (ms0_6 t) fullShare ((dats V 0 c).after 6 t) from by
        unfold Dat.leavesExact; rw [liveAt0_6_C t hc0 hc1], after0_6]
      rw [show (dats V 0 c).leavesExact 7 t = owns (c : Thread nD τ) (ms0_7 t) fullShare ((dats V 0 c).after 7 t) from by
        unfold Dat.leavesExact; rw [liveAt0_7_C t hc0 hc1], after0_7]
      rw [st_pos V c t h0]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_C c (grid0.coords t) _ _ _ _ _ _ _ _ _ _ _ _ _ _ _ _ _ _ _ _ (iblk V c 0 t) (iblk V c 1 t) (iblk V c 2 t) (iblk V c 3 t) hc0 hc1 _ _ Set.univ _)
      isplitl [H0 H1 H2 H3]
      · isplitl [H0]; · iexact H0
        isplitl [H1]; · iexact H1
        isplitl [H2]; · iexact H2
        iexact H3
      isplitl [H4]; · iexists _; iexact H4
      isplitl [H5]; · iexists _; iexact H5
      isplitl [H6]; · iexists _; iexact H6
      isplitl [H7]; · iexists _; iexact H7
      isplitl [HS0]; · iexact HS0
      isplitl [HS1]; · iexact HS1
      iintro ⟨⟨H0, H1, H2, H3⟩, H4, H5, H6, H7, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hc1 : ¬cond0_1 (grid0.coords t) := fun h => by have := (hcond0_1 t).mp h; omega
      rw [Dat.leavesExact_idle (dats V 0 c) 6 t (idleAt0_6_B t hc0 hc1) (noFlush0_6_B t hc0 hc1)]
      rw [Dat.leavesExact_idle (dats V 0 c) 7 t (idleAt0_7_B t hc0 hc1) (noFlush0_7_B t hc0 hc1)]
      rw [st_pos V c t h0]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_B c (grid0.coords t) _ _ _ _ _ _ _ _ _ _ _ _ _ _ _ _ _ _ _ _ (iblk V c 0 t) (iblk V c 1 t) (iblk V c 2 t) (iblk V c 3 t) hc0 hc1 _ _ Set.univ _)
      isplitl [H0 H1 H2 H3]
      · isplitl [H0]; · iexact H0
        isplitl [H1]; · iexact H1
        isplitl [H2]; · iexact H2
        iexact H3
      isplitl [H4]; · iexists _; iexact H4
      isplitl [H5]; · iexists _; iexact H5
      isplitl [HS0]; · iexact HS0
      isplitl [HS1]; · iexact HS1
      iintro ⟨⟨H0, H1, H2, H3⟩, H4, H5, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

theorem defs₀_row (t : Fin cfg0.N) :
    defs₀ (F := F) .tc cfg0.body (cfg0.bodyArgs t (cfg0.slots t)) = bodyAt0 t := by
  rfl

theorem body_exact (c : Dev nD) : BodyObligation (dats (F := F) V 0 c) (defs₀ (F := F)) Variants.none none Set.univ := fun t => by
  rw [bigSep_W0, bigSep_W0, defs₀_row]
  exact triple_restated (sound_body V c t) rfl .rfl fun _ => .rfl

theorem body_obligation (c : Dev nD) : BodyObligationLoose (dats (F := F) V 0 c) (defs₀ (F := F)) Variants.none none Set.univ :=
  BodyObligation.loose _ (body_exact V c)

theorem hin (c : Dev nD) : Pipeline.scopedRest spec0 c ⊢ (dats V 0 c).Φ 0 := by
  rw [show (dats V 0 c).Φ 0 = PhiS V c 0 (Nat.zero_le _) from rfl, PhiS_zero V c 0 _ rfl]

theorem hout (c : Dev nD) : (dats V 0 c).Φ (Fin.last cfg0.N) ⊢ Pipeline.scopedRest spec0 c := by
  rw [show (dats V 0 c).Φ (Fin.last cfg0.N) = PhiS V c (Fin.last cfg0.N).val (Nat.le_of_lt_succ (Fin.last cfg0.N).isLt) from rfl,
    PhiS_pos V c _ _ (by rw [Fin.val_last]; have : cfg0.N = 16 := N_0; omega), scRest_eq]
  iintro ⟨HS0, HS1⟩
  isplitl [HS0]
  · iexists _; iexact HS0
  iexists _; iexact HS1

end Cert.Proof.Tc

end
-- ==== Proof.TcFinal.lean ====
/-
  The TensorCore region's output arrays after its last point: the one-hot rows and the indices block by block, the loss and
  the perplexity as the last point writes them.
-/
module

public import proofs.«01_k».proof.Proof.TcFrame
public import Idealize.ShloMosaic.Lib.Pipeline.Value

@[expose] public section

set_option maxRecDepth 16384

noncomputable section

namespace Cert.Proof.Tc

open Cert.KernelIdeal Cert.KernelIdeal.Gen Cert.Proof.Tile
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

variable (V : (c : Dev nD) → (b : Ref sig .tc) → Buf (Elt F) ((c : Thread nD τ).loc b))

/-- The point whose block holds row `r`. -/
abbrev ptOf (r : Fin 32768) : Fin cfg0.N := ⟨r.val / 2048, lt_of_lt_of_eq (by have := r.isLt; omega) N_0.symm⟩

/-- The last point. -/
abbrev tLast : Fin cfg0.N := ⟨15, lt_of_lt_of_eq (by decide) N_0.symm⟩

theorem one_idx (i j : S1x1.Idx) : i = j := by
  funext a; apply Fin.ext
  match a with
  | ⟨0, _⟩ => have h : (i 0).val < 1 := (i 0).isLt; have h' : (j 0).val < 1 := (j 0).isLt; show (i 0).val = (j 0).val; omega
  | ⟨1, _⟩ => have h : (i 1).val < 1 := (i 1).isLt; have h' : (j 1).val < 1 := (j 1).isLt; show (i 1).val = (j 1).val; omega

/-! ## The one-hot rows -/

set_option backward.proofsInPublic true in
/-- Index `i`'s place in its block. -/
abbrev loc4Of (i : S32768x1024.Idx) : S2048x1024.Idx := fun a => match a with
  | ⟨0, _⟩ => ⟨(i 0).val % 2048, Nat.mod_lt _ (by decide)⟩
  | ⟨1, _⟩ => ⟨(i 1).val % 1024, Nat.mod_lt _ (by decide)⟩

/-- The one-hot rows after the region. -/
def G4 (c : Dev nD) : Buf (Elt F) ((c : Thread nD τ).loc main_v8_0) := fun i =>
  k0_pay9 (iblk V c 0 (ptOf (i 0))) (iblk V c 1 (ptOf (i 0))) (iblk V c 2 (ptOf (i 0))) (iblk V c 3 (ptOf (i 0))) (loc4Of i)

theorem idx_facts4 : ∀ t : Fin cfg0.N, win0_4.index t (0 : Fin 2) = t.val ∧ win0_4.index t (1 : Fin 2) = 0 :=
  (by decide +kernel : ∀ t : Fin grid0.N, _)

theorem flushed4_eq (c : Dev nD) (t : Fin cfg0.N) :
    (dats V 0 c).flushed 4 t = ((cfg0.win 4).blk t).view.read (Elt F) (G4 V c) := by
  show (cfg0.win 4).cut (grid0.coords t) ((dats V 0 c).after 4 t) = _
  rw [after0_4]
  obtain ⟨e0, e1⟩ := idx_facts4 t
  funext y
  have hy0 : (y 0).val < 2048 := (y 0).isLt
  have hy1 : (y 1).val < 1024 := (y 1).isLt
  have hb0 : (((cfg0.win 4).blk t).view.emb y 0).val = win0_4.index t (0 : Fin 2) * 2048 + 1 * (y 0).val := rfl
  have hb1 : (((cfg0.win 4).blk t).view.emb y 1).val = win0_4.index t (1 : Fin 2) * 1024 + 1 * (y 1).val := rfl
  have hp : ptOf (((cfg0.win 4).blk t).view.emb y 0) = t := by
    apply Fin.ext
    show (((cfg0.win 4).blk t).view.emb y 0).val / 2048 = t.val
    rw [hb0]; omega
  have hl : loc4Of (((cfg0.win 4).blk t).view.emb y) = (cfg0.win 4).xinj (grid0.coords t) y := by
    funext a; apply Fin.ext
    match a with
    | ⟨0, _⟩ => show (((cfg0.win 4).blk t).view.emb y 0).val % 2048 = (y 0).val; rw [hb0]; omega
    | ⟨1, _⟩ => show (((cfg0.win 4).blk t).view.emb y 1).val % 1024 = (y 1).val; rw [hb1]; omega
  have hG : G4 V c (((cfg0.win 4).blk t).view.emb y) = k0_pay9 (iblk V c 0 t) (iblk V c 1 t) (iblk V c 2 t) (iblk V c 3 t) ((cfg0.win 4).xinj (grid0.coords t) y) := by
    unfold G4
    rw [hp, hl]
  have hr : ∀ G : Buf (Elt F) ((c : Thread nD τ).loc main_v8_0), ((cfg0.win 4).blk t).view.read (Elt F) G y = G (((cfg0.win 4).blk t).view.emb y) := fun _ => rfl
  refine Eq.trans ?_ (hG.symm.trans (hr _).symm)
  generalize k0_pay9 (iblk V c 0 t) (iblk V c 1 t) (iblk V c 2 t) (iblk V c 3 t) = X
  rfl

theorem mem_blk4 (t : Fin cfg0.N) (i : S32768x1024.Idx) :
    i ∈ ((cfg0.win 4).blk t).view.set ↔ ∀ a : Fin 2, win0_4.index t a * S2048x1024.size a ≤ (i a).val ∧ (i a).val < win0_4.index t a * S2048x1024.size a + S2048x1024.size a := by
  show i ∈ ((View.whole main_v8_0).slice (win0_4.rect t)).set ↔ _
  rw [View.set_slice_whole, Rect.mem_set_unit]
  exact Iff.rfl

theorem covered4 (i : S32768x1024.Idx) : ∃ t : Fin cfg0.N, (cfg0.win 4).flush t = true ∧ i ∈ ((cfg0.win 4).blk t).view.set := by
  have hi0 : (i 0).val < 32768 := (i 0).isLt
  have hi1 : (i 1).val < 1024 := (i 1).isLt
  refine ⟨ptOf (i 0), (by decide +kernel : ∀ t : Fin grid0.N, win0_4.flush t = true) _, ?_⟩
  rw [mem_blk4]
  obtain ⟨e0, e1⟩ := idx_facts4 (ptOf (i 0))
  have e0' : win0_4.index (ptOf (i 0)) (0 : Fin 2) = (i 0).val / 2048 := e0
  intro a
  match a with
  | ⟨0, _⟩ => show win0_4.index (ptOf (i 0)) (0 : Fin 2) * 2048 ≤ (i 0).val ∧ (i 0).val < win0_4.index (ptOf (i 0)) (0 : Fin 2) * 2048 + 2048; omega
  | ⟨1, _⟩ => show win0_4.index (ptOf (i 0)) (1 : Fin 2) * 1024 ≤ (i 1).val ∧ (i 1).val < win0_4.index (ptOf (i 0)) (1 : Fin 2) * 1024 + 1024; omega

theorem final4 (c : Dev nD) : (dats V 0 c).arrAt 4 cfg0.N = G4 V c :=
  (dats V 0 c).arrAt_eq_of_cover 4 _ (fun t _ => flushed4_eq V c t) (fun i => covered4 i)

/-! ## The indices -/

set_option backward.proofsInPublic true in
/-- Index `i`'s place in its block. -/
abbrev loc5Of (i : S32768x1.Idx) : S2048x1.Idx := fun a => match a with
  | ⟨0, _⟩ => ⟨(i 0).val % 2048, Nat.mod_lt _ (by decide)⟩
  | ⟨1, _⟩ => ⟨(i 1).val % 1, Nat.mod_lt _ (by decide)⟩

/-- The indices after the region. -/
def G5 (c : Dev nD) : Buf (Elt F) ((c : Thread nD τ).loc main_v8_1) := fun i =>
  k0_pay10 (iblk V c 0 (ptOf (i 0))) (iblk V c 1 (ptOf (i 0))) (iblk V c 2 (ptOf (i 0))) (iblk V c 3 (ptOf (i 0))) (loc5Of i)

theorem idx_facts5 : ∀ t : Fin cfg0.N, win0_5.index t (0 : Fin 2) = t.val ∧ win0_5.index t (1 : Fin 2) = 0 :=
  (by decide +kernel : ∀ t : Fin grid0.N, _)

theorem flushed5_eq (c : Dev nD) (t : Fin cfg0.N) :
    (dats V 0 c).flushed 5 t = ((cfg0.win 5).blk t).view.read (Elt F) (G5 V c) := by
  show (cfg0.win 5).cut (grid0.coords t) ((dats V 0 c).after 5 t) = _
  rw [after0_5]
  obtain ⟨e0, e1⟩ := idx_facts5 t
  funext y
  have hy0 : (y 0).val < 2048 := (y 0).isLt
  have hy1 : (y 1).val < 1 := (y 1).isLt
  have hb0 : (((cfg0.win 5).blk t).view.emb y 0).val = win0_5.index t (0 : Fin 2) * 2048 + 1 * (y 0).val := rfl
  have hb1 : (((cfg0.win 5).blk t).view.emb y 1).val = win0_5.index t (1 : Fin 2) * 1 + 1 * (y 1).val := rfl
  have hp : ptOf (((cfg0.win 5).blk t).view.emb y 0) = t := by
    apply Fin.ext
    show (((cfg0.win 5).blk t).view.emb y 0).val / 2048 = t.val
    rw [hb0]; omega
  have hl : loc5Of (((cfg0.win 5).blk t).view.emb y) = (cfg0.win 5).xinj (grid0.coords t) y := by
    funext a; apply Fin.ext
    match a with
    | ⟨0, _⟩ => show (((cfg0.win 5).blk t).view.emb y 0).val % 2048 = (y 0).val; rw [hb0]; omega
    | ⟨1, _⟩ => show (((cfg0.win 5).blk t).view.emb y 1).val % 1 = (y 1).val; rw [hb1]; omega
  have hG : G5 V c (((cfg0.win 5).blk t).view.emb y) = k0_pay10 (iblk V c 0 t) (iblk V c 1 t) (iblk V c 2 t) (iblk V c 3 t) ((cfg0.win 5).xinj (grid0.coords t) y) := by
    unfold G5
    rw [hp, hl]
  have hr : ∀ G : Buf (Elt F) ((c : Thread nD τ).loc main_v8_1), ((cfg0.win 5).blk t).view.read (Elt F) G y = G (((cfg0.win 5).blk t).view.emb y) := fun _ => rfl
  refine Eq.trans ?_ (hG.symm.trans (hr _).symm)
  generalize k0_pay10 (iblk V c 0 t) (iblk V c 1 t) (iblk V c 2 t) (iblk V c 3 t) = X
  rfl

theorem mem_blk5 (t : Fin cfg0.N) (i : S32768x1.Idx) :
    i ∈ ((cfg0.win 5).blk t).view.set ↔ ∀ a : Fin 2, win0_5.index t a * S2048x1.size a ≤ (i a).val ∧ (i a).val < win0_5.index t a * S2048x1.size a + S2048x1.size a := by
  show i ∈ ((View.whole main_v8_1).slice (win0_5.rect t)).set ↔ _
  rw [View.set_slice_whole, Rect.mem_set_unit]
  exact Iff.rfl

theorem covered5 (i : S32768x1.Idx) : ∃ t : Fin cfg0.N, (cfg0.win 5).flush t = true ∧ i ∈ ((cfg0.win 5).blk t).view.set := by
  have hi0 : (i 0).val < 32768 := (i 0).isLt
  have hi1 : (i 1).val < 1 := (i 1).isLt
  refine ⟨ptOf (i 0), (by decide +kernel : ∀ t : Fin grid0.N, win0_5.flush t = true) _, ?_⟩
  rw [mem_blk5]
  obtain ⟨e0, e1⟩ := idx_facts5 (ptOf (i 0))
  have e0' : win0_5.index (ptOf (i 0)) (0 : Fin 2) = (i 0).val / 2048 := e0
  intro a
  match a with
  | ⟨0, _⟩ => show win0_5.index (ptOf (i 0)) (0 : Fin 2) * 2048 ≤ (i 0).val ∧ (i 0).val < win0_5.index (ptOf (i 0)) (0 : Fin 2) * 2048 + 2048; omega
  | ⟨1, _⟩ => show win0_5.index (ptOf (i 0)) (1 : Fin 2) * 1 ≤ (i 1).val ∧ (i 1).val < win0_5.index (ptOf (i 0)) (1 : Fin 2) * 1 + 1; omega

theorem final5 (c : Dev nD) : (dats V 0 c).arrAt 5 cfg0.N = G5 V c :=
  (dats V 0 c).arrAt_eq_of_cover 5 _ (fun t _ => flushed5_eq V c t) (fun i => covered5 i)

/-! ## The loss -/

/-- The loss after the region. -/
def G6 (c : Dev nD) : Buf (Elt F) ((c : Thread nD τ).loc main_v8_2) := k0_pay4 ((st V c 15 tLast.isLt).2 o1)

theorem idx_facts6 : ∀ t : Fin cfg0.N, win0_6.index t (0 : Fin 2) = 0 ∧ win0_6.index t (1 : Fin 2) = 0 :=
  (by decide +kernel : ∀ t : Fin grid0.N, _)

theorem flushed6_eq (c : Dev nD) (t : Fin cfg0.N) (hf : (cfg0.win 6).flush t = true) :
    (dats V 0 c).flushed 6 t = ((cfg0.win 6).blk t).view.read (Elt F) (G6 V c) := by
  have hN : t.val < 16 := lt_of_lt_of_eq t.isLt (show cfg0.N = 16 from N_0)
  have hm : t.val % 16 = 15 := (flush0_6 t).mp hf
  have ht : t = tLast := Fin.ext (by show t.val = 15; omega)
  subst ht
  show (cfg0.win 6).cut (grid0.coords tLast) ((dats V 0 c).after 6 tLast) = _
  rw [after0_6]
  funext y
  show G6 V c ((cfg0.win 6).xinj (grid0.coords tLast) y) = G6 V c (((cfg0.win 6).blk tLast).view.emb y)
  exact congrArg _ (one_idx _ _)

theorem mem_blk6 (t : Fin cfg0.N) (i : S1x1.Idx) :
    i ∈ ((cfg0.win 6).blk t).view.set ↔ ∀ a : Fin 2, win0_6.index t a * S1x1.size a ≤ (i a).val ∧ (i a).val < win0_6.index t a * S1x1.size a + S1x1.size a := by
  show i ∈ ((View.whole main_v8_2).slice (win0_6.rect t)).set ↔ _
  rw [View.set_slice_whole, Rect.mem_set_unit]
  exact Iff.rfl

theorem covered6 (i : S1x1.Idx) : ∃ t : Fin cfg0.N, (cfg0.win 6).flush t = true ∧ i ∈ ((cfg0.win 6).blk t).view.set := by
  have hi0 : (i 0).val < 1 := (i 0).isLt
  have hi1 : (i 1).val < 1 := (i 1).isLt
  refine ⟨tLast, (flush0_6 tLast).mpr (by decide), ?_⟩
  rw [mem_blk6]
  obtain ⟨e0, e1⟩ := idx_facts6 tLast
  intro a
  match a with
  | ⟨0, _⟩ => show win0_6.index tLast (0 : Fin 2) * 1 ≤ (i 0).val ∧ (i 0).val < win0_6.index tLast (0 : Fin 2) * 1 + 1; omega
  | ⟨1, _⟩ => show win0_6.index tLast (1 : Fin 2) * 1 ≤ (i 1).val ∧ (i 1).val < win0_6.index tLast (1 : Fin 2) * 1 + 1; omega

theorem final6 (c : Dev nD) : (dats V 0 c).arrAt 6 cfg0.N = G6 V c :=
  (dats V 0 c).arrAt_eq_of_cover 6 _ (fun t hf => flushed6_eq V c t hf) (fun i => covered6 i)

/-! ## The perplexity -/

/-- The perplexity after the region. -/
def G7 (c : Dev nD) : Buf (Elt F) ((c : Thread nD τ).loc main_v8_3) := k0_pay5 (st V c 15 tLast.isLt).1

theorem idx_facts7 : ∀ t : Fin cfg0.N, win0_7.index t (0 : Fin 2) = 0 ∧ win0_7.index t (1 : Fin 2) = 0 :=
  (by decide +kernel : ∀ t : Fin grid0.N, _)

theorem flushed7_eq (c : Dev nD) (t : Fin cfg0.N) (hf : (cfg0.win 7).flush t = true) :
    (dats V 0 c).flushed 7 t = ((cfg0.win 7).blk t).view.read (Elt F) (G7 V c) := by
  have hN : t.val < 16 := lt_of_lt_of_eq t.isLt (show cfg0.N = 16 from N_0)
  have hm : t.val % 16 = 15 := (flush0_7 t).mp hf
  have ht : t = tLast := Fin.ext (by show t.val = 15; omega)
  subst ht
  show (cfg0.win 7).cut (grid0.coords tLast) ((dats V 0 c).after 7 tLast) = _
  rw [after0_7]
  funext y
  show G7 V c ((cfg0.win 7).xinj (grid0.coords tLast) y) = G7 V c (((cfg0.win 7).blk tLast).view.emb y)
  exact congrArg _ (one_idx _ _)

theorem mem_blk7 (t : Fin cfg0.N) (i : S1x1.Idx) :
    i ∈ ((cfg0.win 7).blk t).view.set ↔ ∀ a : Fin 2, win0_7.index t a * S1x1.size a ≤ (i a).val ∧ (i a).val < win0_7.index t a * S1x1.size a + S1x1.size a := by
  show i ∈ ((View.whole main_v8_3).slice (win0_7.rect t)).set ↔ _
  rw [View.set_slice_whole, Rect.mem_set_unit]
  exact Iff.rfl

theorem covered7 (i : S1x1.Idx) : ∃ t : Fin cfg0.N, (cfg0.win 7).flush t = true ∧ i ∈ ((cfg0.win 7).blk t).view.set := by
  have hi0 : (i 0).val < 1 := (i 0).isLt
  have hi1 : (i 1).val < 1 := (i 1).isLt
  refine ⟨tLast, (flush0_7 tLast).mpr (by decide), ?_⟩
  rw [mem_blk7]
  obtain ⟨e0, e1⟩ := idx_facts7 tLast
  intro a
  match a with
  | ⟨0, _⟩ => show win0_7.index tLast (0 : Fin 2) * 1 ≤ (i 0).val ∧ (i 0).val < win0_7.index tLast (0 : Fin 2) * 1 + 1; omega
  | ⟨1, _⟩ => show win0_7.index tLast (1 : Fin 2) * 1 ≤ (i 1).val ∧ (i 1).val < win0_7.index tLast (1 : Fin 2) * 1 + 1; omega

theorem final7 (c : Dev nD) : (dats V 0 c).arrAt 7 cfg0.N = G7 V c :=
  (dats V 0 c).arrAt_eq_of_cover 7 _ (fun t hf => flushed7_eq V c t hf) (fun i => covered7 i)

end Cert.Proof.Tc

end
-- ==== Proof.TcSeg.lean ====
/-
  The TensorCore region as one step of @main: entered from the TensorCore's arrays at a valuation, left with them at the
  valuation after the region, the TensorCore owing throughout what it owes the SparseCore's handshakes before its call.
-/
module

public import proofs.«01_k».proof.Proof.TcFinal
public import Idealize.ShloMosaic.Lib.Pipeline.RegionArraysS

@[expose] public section

set_option maxRecDepth 16384

noncomputable section

namespace Cert.Proof.Tc

open Cert.KernelIdeal Cert.KernelIdeal.Gen Cert.Proof.Tile
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf RegionSeg arrRefs ucRefs afterRegion arrRef)

variable {F : FTy → Type} [FloatOps F]

local notation "𝕄" => MT nD τ sig (HIx 1) (Elt F) ℕ UU ℕ

abbrev adm : (p : Fin 1) → (pcfgs (F := F) p).Adm := fun p => (cfgs p).toPCfg_adm

variable (W : Dev nD → Valuation τ sig (Elt F))

/-- The valuation read as the region's proof data takes it. -/
abbrev VW (c : Dev nD) (b : Ref sig .tc) : Buf (Elt F) ((c : Thread nD τ).loc b) := W c (Proc.devRef .tc b)

def pdats : (p : Fin 1) → (c : Dev nD) → Dat τ (Elt F) (HIx 1) ℕ UU ℕ (Pipeline.pin (pcfgs (F := F)) adm p) c :=
  fun p c => dats (VW W) p c

/-- The TensorCore owing the SparseCore's handshakes what it owes before the call, its waits so far its own. -/
abbrev owesTc (c : Dev nD) : sProp 𝕄 :=
  iprop(∃ Wt, ⌜(K (F := F)).WBelow (SparseCore.T c) Wt 0⌝ ∗ owes (SparseCore.T c) ((K (F := F)).Otc c 0) Wt)

/-- The valuation after the region. -/
def WA (c : Dev nD) : Valuation τ sig (Elt F) := afterRegion (pdats W 0 c) (W c)

theorem arrSub : arrRefs (τ := τ) spec0 ⊆ ucRefs τ sig := Pipeline.arrRefs_sub_ucRefs spec0 winFacts0.arr_unscoped

theorem share_full (c : Dev nD) (w : Fin cfg0.W) : (pdats W 0 c).share w = fullShare := (pdats W 0 c).share_full (fun _ => rfl) w

theorem owed_none (c : Dev nD) (g : GSem nD τ sig) : (K (F := F)).Otc c 0 g none = 0 := by
  by_contra h
  have := SparseCore.Cfg.lev_of_Otc_pos (K := K (F := F)) (Nat.pos_of_ne_zero h)
  simp [SparseCore.Cfg.lev] at this

theorem hwaits (c : Dev nD) : (levAts (K (F := F)).L (K (F := F)).lev : sProp 𝕄)
    ⊢ Pipeline.cellsWaits (Pipeline.pin (pcfgs (F := F)) adm) (pdats W) none 0 c :=
  Pipeline.cellsWaits_of_cut (Pipeline.pin (pcfgs (F := F)) adm) (pdats W) none 0 c 0 ((K (F := F)).Otc c 0) (fun _ => rfl)
    (fun _ _ => Finset.mem_univ _) (fun _ _ => le_rfl)
    (fun g i h => ⟨Finset.mem_univ _, by have := SparseCore.Cfg.lev_of_Otc_pos (K := K (F := F)) h; omega⟩)

/-- The region's record. -/
def region : RegionSeg (pcfgs (F := F)) adm (pdats W) none (defs₀ (F := F)) Variants.none (K (F := F)).L (K (F := F)).lev 0 where
  win := launch0.win.to₀
  block_pos := block_pos0
  stage_whole := stage_whole0
  K := PEmpty
  osem k := k.elim
  ho := Pipeline.OwnSemFacts.none _
  hbody c := body_obligation (VW W) c
  hwaits c := hwaits W c
  pre c := iprop(StableHlo.held (c.tc : Thread nD τ) (ucRefs τ sig) (W c) ∗ owesTc c)
  post c := iprop(StableHlo.held (c.tc : Thread nD τ) (ucRefs τ sig) (WA W c) ∗ owesTc c)
  X _ := iprop(emp)
  Y _ := iprop(emp)
  Z c := StableHlo.held (c.tc : Thread nD τ) (ucRefs τ sig \ arrRefs spec0) (W c)
  hentry c := by
    rw [Pipeline.ownSems0_none, Pipeline.prefHeld_of_none _ rfl]
    rw [Pipeline.arrays_held (pcfgs (F := F)) adm (pdats W) 0 launch0.toP c (share_full W c) ((pdats W 0 c).arrAt · 0) (W c) (fun _ => rfl)]
    rw [StableHlo.held_sub_split (c.tc : Thread nD τ) arrSub (W c)]
    iintro ⟨⟨⟨Ha, Hu⟩, %Wt, %hW, HO⟩, -, -⟩
    imodintro
    isplitl [Ha]; · iexact Ha
    isplitr; · iempintro
    isplitl [HO]
    · unfold Dat.owesAt Pipeline.owesWithin Dat.bound
      iexists Wt; isplitr
      · ipureintro; exact fun p hp => Or.inl (hW p hp)
      iexact HO
    isplitr; · iempintro
    iexact Hu
  hin c := (show _ ⊢ (Pipeline.scopedRest spec0 c : sProp 𝕄) from by
    iintro ⟨-, -, Hr⟩
    iexact Hr).trans (hin (VW W) c)
  hout c := (hout (VW W) c).trans (by
    rw [Pipeline.ownSems0_none]
    show (Pipeline.scopedRest spec0 c : sProp 𝕄) ⊢ iprop(emp ∗ emp ∗ Pipeline.scopedRest spec0 c)
    iintro H
    isplitr; · iempintro
    isplitr; · iempintro
    iexact H)
  hexit c := by
    rw [Pipeline.arrays_held (pcfgs (F := F)) adm (pdats W) 0 launch0.toP c (share_full W c) ((pdats W 0 c).arrAt · (Pipeline.pin (pcfgs (F := F)) adm 0).N) (WA W c)
      (fun w => (Pipeline.afterRegion_arr (pdats W 0 c) (W c) winFacts0.arr_inj w).symm)]
    rw [StableHlo.held_sub_split (c.tc : Thread nD τ) arrSub (WA W c)]
    rw [StableHlo.held_congr (c.tc : Thread nD τ) (S := ucRefs τ sig \ arrRefs spec0) (V := WA W c) (V' := W c) (Pipeline.afterRegion_off (pdats W 0 c) (W c) (ucRefs τ sig))]
    iintro ⟨Ha, HO, -, Hu⟩
    imodintro
    isplitl [Ha Hu]
    · isplitl [Ha]; · iexact Ha
      iexact Hu
    unfold Dat.owesAt Pipeline.owesWithin Dat.bound
    icases HO with ⟨%Wt, %hW, HO⟩
    iexists Wt
    isplitr
    · ipureintro
      intro p hp
      rcases hW hp with h | ⟨w, s, h⟩
      · exact h
      · subst h; exact le_rfl
    iexact HO

end Cert.Proof.Tc

end
-- ==== Proof.Launch.lean ====
/-
  The launch: @main on the TensorCore is a line of host operations, the TensorCore call, a line of host operations, the
  row gather, and a line of host operations, run over the TensorCore's arrays held whole; and the whole program's run.
-/
module

public import proofs.«01_k».proof.Proof.Pay
public import proofs.«01_k».proof.Proof.TcSeg

@[expose] public section

set_option maxRecDepth 16384

noncomputable section

namespace Cert.Proof.Main

open Cert.KernelIdeal Cert.KernelIdeal.Gen Cert.Proof.Tile Cert.Proof.Tc
open Idealize.ShloMosaic Idealize.ShloMosaic.TcCoe Idealize.ShloMosaic.Tactic
open Idealize.ShloMosaic.SparseCore (S V T)
open Idealize.ShloMosaic.SparseCore.Cfg (HIx Pay)
open Idealize.ShloMosaic.StableHlo (held)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (ucRefs afterRegion cellsGhost toksInit)

variable {F : FTy → Type} [FloatOps F]

local notation "𝕄" => MT nD τ sig (HIx 1) (Elt F) ℕ UU ℕ

/-! ## @main -/

/-- The host operations before the TensorCore call, -/
def opsA : List (HloOp τ sig (Elt F)) :=
  [StableHlo.unary main_arg0 main_v0 ((transpose S32x32x32x64 [0, 2, 3, 1] · transposes_S32x64x32x32_S32x32x32x64_0_2_3_1) : (⟨S32x64x32x32, .f32⟩ : BufTy).Contents (Elt F) → (⟨S32x32x32x64, .f32⟩ : BufTy).Contents (Elt F)),
   StableHlo.reshape main_v0 main_v1 (rfl : (.f32 : EltTy) = .f32) shapeCasts_S32x32x32x64_S32768x64,
   StableHlo.binary main_v1 main_v1 main_v2 (mulf : (⟨S32768x64, .f32⟩ : BufTy).Contents (Elt F) → (⟨S32768x64, .f32⟩ : BufTy).Contents (Elt F) → (⟨S32768x64, .f32⟩ : BufTy).Contents (Elt F)),
   StableHlo.nullary main_cst (constant S_ .f32 0x00000000#32),
   StableHlo.binary main_v2 main_cst main_v3 ((fun x v => Host.reduceAdd x v reducesTo_S32768x64_S32768_d1 h_S_) : (⟨S32768x64, .f32⟩ : BufTy).Contents (Elt F) → (⟨S_, .f32⟩ : BufTy).Contents (Elt F) → (⟨S32768, .f32⟩ : BufTy).Contents (Elt F)),
   StableHlo.unary main_v3 main_v4 (broadcastInDim S32768x1 ![0] bcast_S32768_S32768x1_0 : (⟨S32768, .f32⟩ : BufTy).Contents (Elt F) → (⟨S32768x1, .f32⟩ : BufTy).Contents (Elt F)),
   StableHlo.binary main_arg1 main_arg1 main_v5 (mulf : (⟨S1024x64, .f32⟩ : BufTy).Contents (Elt F) → (⟨S1024x64, .f32⟩ : BufTy).Contents (Elt F) → (⟨S1024x64, .f32⟩ : BufTy).Contents (Elt F)),
   StableHlo.nullary main_cst_0 (constant S_ .f32 0x00000000#32),
   StableHlo.binary main_v5 main_cst_0 main_v6 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
   StableHlo.unary main_v6 main_v7 (broadcastInDim S1x1024 ![1] bcast_S1024_S1x1024_1 : (⟨S1024, .f32⟩ : BufTy).Contents (Elt F) → (⟨S1x1024, .f32⟩ : BufTy).Contents (Elt F))]

/-- between it and the row gather, -/
def opsB : List (HloOp τ sig (Elt F)) :=
  [StableHlo.nullary main_cst_1 (constant S_ .f32 0x00000000#32),
   StableHlo.unary main_cst_1 main_v9 (broadcastInDim S1024x64 ![] bcast_S_S1024x64 : (⟨S_, .f32⟩ : BufTy).Contents (Elt F) → (⟨S1024x64, .f32⟩ : BufTy).Contents (Elt F)),
   StableHlo.binary main_arg1 main_v9 main_v10 ((fun a b => concatenate S1024x128 1 [⟨S1024x64, a⟩, ⟨S1024x64, b⟩] concatenates_S1024x64_S1024x64_S1024x128_d1) : (⟨S1024x64, .f32⟩ : BufTy).Contents (Elt F) → (⟨S1024x64, .f32⟩ : BufTy).Contents (Elt F) → (⟨S1024x128, .f32⟩ : BufTy).Contents (Elt F)),
   StableHlo.nullary main_cst_2 (constant S_ .f32 0x00000000#32),
   StableHlo.unary main_cst_2 main_v11 (broadcastInDim S8x128 ![] bcast_S_S8x128 : (⟨S_, .f32⟩ : BufTy).Contents (Elt F) → (⟨S8x128, .f32⟩ : BufTy).Contents (Elt F)),
   StableHlo.binary main_v10 main_v11 main_v12 ((fun a b => concatenate S1032x128 0 [⟨S1024x128, a⟩, ⟨S8x128, b⟩] concatenates_S1024x128_S8x128_S1032x128_d0) : (⟨S1024x128, .f32⟩ : BufTy).Contents (Elt F) → (⟨S8x128, .f32⟩ : BufTy).Contents (Elt F) → (⟨S1032x128, .f32⟩ : BufTy).Contents (Elt F)),
   StableHlo.reshape main_v8_1 main_v13 (rfl : (.i32 : EltTy) = .i32) shapeCasts_S32768x1_S1x32768]

/-- and after the row gather. -/
def opsC : List (HloOp τ sig (Elt F)) :=
  [StableHlo.reshape main_v14 main_v15 (rfl : (.f32 : EltTy) = .f32) shapeCasts_S32768x128_S32x32x32x128,
   StableHlo.unary main_v15 main_v16 ((extractStridedSlice S32x32x32x64 ![0, 0, 0, 0] · slices_S32x32x32x128_S32x32x32x64_0_0_0_0) : (⟨S32x32x32x128, .f32⟩ : BufTy).Contents (Elt F) → (⟨S32x32x32x64, .f32⟩ : BufTy).Contents (Elt F)),
   StableHlo.unary main_v16 main_v17 ((transpose S32x64x32x32 [0, 3, 1, 2] · transposes_S32x32x32x64_S32x64x32x32_0_3_1_2) : (⟨S32x32x32x64, .f32⟩ : BufTy).Contents (Elt F) → (⟨S32x64x32x32, .f32⟩ : BufTy).Contents (Elt F)),
   StableHlo.reshape main_v8_2 main_v18 (rfl : (.f32 : EltTy) = .f32) shapeCasts_S1x1_S_,
   StableHlo.reshape main_v8_3 main_v19 (rfl : (.f32 : EltTy) = .f32) shapeCasts_S1x1_S_]

theorem main_eq (d : Dev nD) : main (F := F) d
    = StableHlo.seq opsA >>= fun _ => SparseCore.liftProg (.op (.customCall (Pipeline.entry 0) ()) .ret) >>= fun _ =>
        StableHlo.seq opsB >>= fun _ => sc.run d 0 >>= fun _ => StableHlo.seq opsC >>= fun _ => pure ⟨⟩ := by
  rfl

theorem subA : ∀ op ∈ opsA (F := F), op.bufs ⊆ ucRefs τ sig := fun op h =>
  Pipeline.sub_ucRefs op (List.forall_iff_forall_mem.1 (show (opsA (F := F)).Forall fun op => op.bufs ⊆ StableHlo.tcRefs τ sig by simp [opsA, List.Forall]) op h)
theorem subB : ∀ op ∈ opsB (F := F), op.bufs ⊆ ucRefs τ sig := fun op h =>
  Pipeline.sub_ucRefs op (List.forall_iff_forall_mem.1 (show (opsB (F := F)).Forall fun op => op.bufs ⊆ StableHlo.tcRefs τ sig by simp [opsB, List.Forall]) op h)
theorem subC : ∀ op ∈ opsC (F := F), op.bufs ⊆ ucRefs τ sig := fun op h =>
  Pipeline.sub_ucRefs op (List.forall_iff_forall_mem.1 (show (opsC (F := F)).Forall fun op => op.bufs ⊆ StableHlo.tcRefs τ sig by simp [opsC, List.Forall]) op h)
theorem freshA : ∀ op ∈ opsA (F := F), op.fresh = ∅ := by unfold opsA; intro _ h; (repeat (cases h with | head => rfl | tail _ h => ?_)); exact nomatch h
theorem freshB : ∀ op ∈ opsB (F := F), op.fresh = ∅ := by unfold opsB; intro _ h; (repeat (cases h with | head => rfl | tail _ h => ?_)); exact nomatch h
theorem freshC : ∀ op ∈ opsC (F := F), op.fresh = ∅ := by unfold opsC; intro _ h; (repeat (cases h with | head => rfl | tail _ h => ?_)); exact nomatch h

/-! ## The launch element of the ghost state -/

/-- The pipeline's copy of the rounds library inside the proof's component. -/
def EP : Emb UP 𝕄 :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

abbrev pins : Fin 1 → Pipeline.Cfg sig Λ₀ := Pipeline.pin (pcfgs (F := F)) adm

theorem pins_inj : Function.Injective (Pipeline.cellOf (nD := nD) (τ := τ) (pins (F := F))) := cellOf_inj

def uP : UP := initOf (Pipeline.cells (nD := nD) (τ := τ) (pins (F := F)) pins_inj) (Pipeline.launchToks (pins (F := F)) pins_inj)

def u₀ : UU := (initOf (K (F := F)).hsCells (K (F := F)).hsToks, (uP (F := F), 1))

theorem ownU_split (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, 1))))

/-- What @main takes of the pipeline's ghost state. -/
abbrev G (d : Dev nD) : sProp 𝕄 := iprop(cellsGhost (pins (F := F)) EP 0 d ∗ toksInit (pins (F := F)) EP 0 d)

theorem hu₀ (ft : (d : Dev nD) → Buf (Elt F) (tLoc d)) (fi : (d : Dev nD) → Buf (Elt F) (iLoc d)) (f0 : (d : Dev nD) → Buf (Elt F) (oLoc d)) :
    (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P ft fi f0).x q thr) := by
  unfold u₀
  iintro Hu
  ihave H := (ownU_split _ _) $$ Hu
  icases H with ⟨HH, HK⟩
  imod (show (BI.own (EP (uP (F := F))) : sProp 𝕄) ⊢ _ from Pipeline.fund_ghost (pins (F := F)) EP pins_inj) $$ HK with ⟨Hg, Ht⟩
  imodintro
  isplitl [HH]; · iexact HH
  isplitl [Hg Ht]
  · unfold G
    rw [bigSep_sep']
    ihave Hg' := (Entails.of_eq (show (bigSep Finset.univ fun c : Dev nD => bigSep Finset.univ fun p : Fin 1 => (cellsGhost (pins (F := F)) EP p c : sProp 𝕄)) = bigSep Finset.univ fun c : Dev nD => cellsGhost (pins (F := F)) EP 0 c from
      congrArg _ (funext fun c => bigSep_univ_of_subsingleton (0 : Fin 1)))) $$ Hg
    ihave Ht' := (Entails.of_eq (show (bigSep Finset.univ fun c : Dev nD => bigSep Finset.univ fun p : Fin 1 => (toksInit (pins (F := F)) EP p c : sProp 𝕄)) = bigSep Finset.univ fun c : Dev nD => toksInit (pins (F := F)) EP 0 c from
      congrArg _ (funext fun c => bigSep_univ_of_subsingleton (0 : Fin 1)))) $$ Ht
    isplitl [Hg'] <;> iassumption
  rw [show (bigSep Finset.univ fun thr : Thread nD τ => bigSep Finset.univ fun q : Fin 1 => (P ft fi f0).x q thr) = (iprop(emp) : sProp 𝕄) from
    (congrArg _ (funext fun thr => bigSep_emp_const _)).trans (bigSep_emp_const _)]
  iempintro

/-! ## The valuations -/

variable (m : (ℓ : Loc nD τ sig) → Buf (Elt F) ℓ) (ρ : Dev nD → PrngReg)

/-- Before the TensorCore call, after it, before the row gather, after it, and at the end. -/
def VA (d : Dev nD) : Valuation τ sig (Elt F) := StableHlo.after opsA (StableHlo.launchContents m d)
def VB (d : Dev nD) : Valuation τ sig (Elt F) := StableHlo.after opsB (WA (VA m) d)

abbrev t' : DevRef τ sig := Proc.devRef .tc (main_v12 : Ref sig .tc)
abbrev i' : DevRef τ sig := Proc.devRef .tc (main_v13 : Ref sig .tc)
abbrev o' : DevRef τ sig := Proc.devRef .tc (main_v14 : Ref sig .tc)

abbrev ftM (d : Dev nD) : Buf (Elt F) (tLoc d) := VB m d t'
abbrev fiM (d : Dev nD) : Buf (Elt F) (iLoc d) := VB m d i'
abbrev f0M (d : Dev nD) : Buf (Elt F) (oLoc d) := VB m d o'

def VC (d : Dev nD) : Valuation τ sig (Elt F) := Function.update (VB m d) o' (gD (ftM m) (fiM m) d)
def VZ (d : Dev nD) : Valuation τ sig (Elt F) := StableHlo.after opsC (VC m d)

abbrev PM : (K (F := F)).Pay (nD := nD) (Val := Elt F) (Name := ℕ) (U := UU) := P (ftM m) (fiM m) (f0M m)

/-- The three buffers of the row gather. -/
abbrev S3 : Finset (DevRef τ sig) := {t', i', o'}

theorem held_S3 (d : Dev nD) (W : Valuation τ sig (Elt F)) :
    (held (T d) S3 W : sProp 𝕄) = iprop((tLoc d ↦{fullShare} W t') ∗ (iLoc d ↦{fullShare} W i') ∗ (oLoc d ↦{fullShare} W o')) := by
  unfold StableHlo.held S3
  rw [SparseCore.bigSep_insert' (by decide), SparseCore.bigSep_insert' (by decide), bigSep_singleton]

theorem S3_sub : S3 ⊆ ucRefs τ sig := by
  intro b hb
  simp only [S3, Finset.mem_insert, Finset.mem_singleton] at hb
  rcases hb with h | h | h <;> subst h <;> exact Pipeline.devRef_mem_ucRefs rfl

theorem VC_off (d : Dev nD) : ∀ b ∈ ucRefs τ sig \ S3, VB m d b = VC m d b := by
  intro b hb
  refine (Function.update_of_ne ?_ _ _).symm
  rintro rfl
  exact (Finset.mem_sdiff.1 hb).2 (by simp [S3])

theorem VC_t (d : Dev nD) : VC m d t' = ftM m d := Function.update_of_ne (show t' ≠ o' by decide) _ _
theorem VC_i (d : Dev nD) : VC m d i' = fiM m d := Function.update_of_ne (show i' ≠ o' by decide) _ _
theorem VC_o (d : Dev nD) : VC m d o' = gD (ftM m) (fiM m) d := Function.update_self _ _ _

/-- What @main leaves the claims: every unscoped buffer at the end valuation. -/
abbrev FIN (d : Dev nD) : sProp 𝕄 := held (T d) (ucRefs τ sig) (VZ m d)

/-! ## The two calls, each as one step -/

theorem hcall (κ : GSem nD τ sig → ℕ) (d : Dev nD) (Φ : PUnit → sProp 𝕄) :
    iprop((K (F := F)).ctx EH (PM m) κ ∗ (K (F := F)).tcSt EH d 0 ∗ held (T d) (ucRefs τ sig) (VB m d)
        ∗ (((K (F := F)).tcSt EH d 1 ∗ held (T d) (ucRefs τ sig) (VC m d)) -∗ Φ ⟨⟩))
      ⊢ wp frame (wpE ((K (F := F)).defs (D (F := F))) 𝒱 (SparseCore.T d) none) Set.univ (sc.run d 0) Φ := by
  rw [StableHlo.held_sub_split (T d) S3_sub (VB m d), StableHlo.held_sub_split (T d) S3_sub (VC m d), held_S3, held_S3, VC_t, VC_i, VC_o,
    StableHlo.held_congr (T d) (VC_off m d)]
  iintro ⟨#Hctx, Hst, ⟨H3, Hu⟩, Hk⟩
  ihave Ha := (all_cores (ftM m) (fiM m) d (f0M m d) (gD (ftM m) (fiM m) d)) $$ H3
  icases Ha with ⟨Hs, Hback⟩
  iapply ((K (F := F)).wp_run (D (F := F)) 𝒱 (EH := EH) (P := PM m) κ d 0) $$ [Hst Hs Hback Hu Hk]
  isplitr; · iexact Hctx
  isplitl [Hst]; · iexact Hst
  isplitl [Hs]; · iexact Hs
  iintro ⟨Hst, Hdn⟩
  iapply Hk
  isplitl [Hst]; · iexact Hst
  isplitr [Hu]
  · iapply Hback; iexact Hdn
  iexact Hu

theorem region_pre (W : Dev nD → Valuation τ sig (Elt F)) (d : Dev nD) :
    (region W).pre d = iprop(held (T d) (ucRefs τ sig) (W d) ∗ owesTc d) := rfl
theorem region_post (W : Dev nD → Valuation τ sig (Elt F)) (d : Dev nD) :
    (region W).post d = iprop(held (T d) (ucRefs τ sig) (WA W d) ∗ owesTc d) := rfl

theorem region_wp (W : Dev nD → Valuation τ sig (Elt F)) (d : Dev nD) (Φ : PUnit → sProp 𝕄) :
    iprop((iprop(boundary (T d) ∗ held (T d) (ucRefs τ sig) (WA W d) ∗ owesTc d) -∗
          wp frame (wpE (D (F := F)) 𝒱 (T d) none) Set.univ (.ret ⟨⟩) Φ)
        ∗ boundary (T d) ∗ (held (T d) (ucRefs τ sig) (W d) ∗ owesTc d) ∗ levAts (K (F := F)).L (K (F := F)).lev ∗ G d)
      ⊢ wp frame (wpE (D (F := F)) 𝒱 (T d) none) Set.univ (.op (.customCall (Pipeline.entry 0) ()) .ret) Φ := by
  rw [← region_post W d, ← region_pre W d]
  exact Pipeline.RegionSeg.wp (pcfgs (F := F)) adm (pdats W) none pins_inj EP (defs₀ (F := F)) Variants.none
    (K (F := F)).L (K (F := F)).lev (region W) d none (fun _ h => nomatch h) .ret Φ

theorem hseq (d : Dev nD) (ops : List (HloOp τ sig (Elt F))) (hS : ∀ op ∈ ops, op.bufs ⊆ ucRefs τ sig) (hf : ∀ op ∈ ops, op.fresh = ∅)
    (W : Valuation τ sig (Elt F)) {β : Type} (k : PUnit → Prog (TpuEff nD τ sig (Elt F) (SparseCore.Sig (Pipeline.Sig Λ₀ (Fin 1) fun p => (pcfgs (F := F) p).Adm) 1) .tc) β) (Φ : β → sProp 𝕄) :
    iprop(boundary (T d) ∗ held (T d) (ucRefs τ sig) W
        ∗ ((boundary (T d) ∗ held (T d) (ucRefs τ sig) (StableHlo.after ops W)) -∗
            wp frame (wpE ((K (F := F)).defs (D (F := F))) 𝒱 (SparseCore.T d) none) Set.univ (k ⟨⟩) Φ))
      ⊢ wp frame (wpE ((K (F := F)).defs (D (F := F))) 𝒱 (SparseCore.T d) none) Set.univ (StableHlo.seq ops >>= k) Φ := by
  have h := StableHlo.wp_seq (defs := (K (F := F)).defs (D (F := F))) 𝒱 none Set.univ d (ucRefs τ sig) k (K := Φ) ops hS hf W
  iintro ⟨Hb, Hh, Hk⟩
  iapply h $$ [Hb Hh] [Hk]
  · isplitl [Hb] <;> iassumption
  iexact Hk

theorem hregion (κ : GSem nD τ sig → ℕ) (d : Dev nD) (Φ : PUnit → sProp 𝕄) :
    iprop((K (F := F)).ctx EH (PM m) κ ∗ (K (F := F)).tcSt EH d 0 ∗ boundary (T d) ∗ held (T d) (ucRefs τ sig) (VA m d) ∗ G d
        ∗ (((K (F := F)).tcSt EH d 0 ∗ boundary (T d) ∗ held (T d) (ucRefs τ sig) (WA (VA m) d)) -∗ Φ ⟨⟩))
      ⊢ wp frame (wpE ((K (F := F)).defs (D (F := F))) 𝒱 (SparseCore.T d) none) Set.univ
          (SparseCore.liftProg (.op (.customCall (Pipeline.entry 0) ()) .ret)) Φ := by
  refine BIBase.Entails.trans (show iprop((K (F := F)).ctx EH (PM m) κ ∗ (K (F := F)).tcSt EH d 0 ∗ boundary (T d) ∗ held (T d) (ucRefs τ sig) (VA m d) ∗ G d
        ∗ (((K (F := F)).tcSt EH d 0 ∗ boundary (T d) ∗ held (T d) (ucRefs τ sig) (WA (VA m) d)) -∗ Φ ⟨⟩))
    ⊢ (iprop((iprop(boundary (T d) ∗ held (T d) (ucRefs τ sig) (WA (VA m) d) ∗ owesTc d) -∗
          wp frame (wpE (D (F := F)) 𝒱 (T d) none) Set.univ (.ret ⟨⟩) Φ)
        ∗ boundary (T d) ∗ (held (T d) (ucRefs τ sig) (VA m d) ∗ owesTc d) ∗ levAts (K (F := F)).L (K (F := F)).lev ∗ G d) : sProp 𝕄) from ?_)
    ((region_wp (VA m) d Φ).trans ((K (F := F)).wp_liftProg (D (F := F)) 𝒱 (SparseCore.T d) Set.univ none _ _))
  unfold SparseCore.Cfg.tcSt
  rw [show (8 * SparseCore.Cfg.Blocks.fst 1 1 0 : ℕ) = 0 from rfl]
  iintro ⟨#Hctx, ⟨Ho, Hr⟩, Hb, Hh, Hg, Hk⟩
  isplitl [Hk Hr]
  · iintro ⟨Hb, Hh, Ho⟩
    rw [wp_ret]; imodintro
    iapply Hk
    isplitl [Ho Hr]; · isplitl [Ho] <;> iassumption
    isplitl [Hb] <;> iassumption
  isplitl [Hb]; · iexact Hb
  isplitl [Hh Ho]; · isplitl [Hh] <;> iassumption
  isplitr
  · iapply (SparseCore.Cfg.ctx_levAts κ); iexact Hctx
  iexact Hg

/-! ## @main -/

theorem hmain (κ : GSem nD τ sig → ℕ) (d : Dev nD) :
    iprop((K (F := F)).ctx EH (PM m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) (ucRefs τ sig) (StableHlo.launchContents m d) from
    Pipeline.unscopedBufs_held d (StableHlo.launchContents m d)]
  rw [main_eq]
  iintro ⟨#Hctx, Hst, ⟨Hb, Hheld, Hts, -⟩, Hg⟩
  iapply (hseq d opsA subA freshA (StableHlo.launchContents m d))
  isplitl [Hb]; · iexact Hb
  isplitl [Hheld]; · iexact Hheld
  iintro ⟨Hb, Hheld⟩
  rw [wp_bind]
  iapply (hregion m κ d _)
  isplitr; · iexact Hctx
  isplitl [Hst]; · iexact Hst
  isplitl [Hb]; · iexact Hb
  isplitl [Hheld]; · iexact Hheld
  isplitl [Hg]; · iexact Hg
  iintro ⟨Hst, Hb, Hheld⟩
  iapply (hseq d opsB subB freshB (WA (VA m) d))
  isplitl [Hb]; · iexact Hb
  isplitl [Hheld]; · iexact Hheld
  iintro ⟨Hb, Hheld⟩
  rw [wp_bind]
  iapply (hcall m κ d _)
  isplitr; · iexact Hctx
  isplitl [Hst]; · iexact Hst
  isplitl [Hheld]; · iexact Hheld
  iintro ⟨Hst, Hheld⟩
  iapply (hseq d opsC subC freshC (VC m d))
  isplitl [Hb]; · iexact Hb
  isplitl [Hheld]; · iexact Hheld
  iintro ⟨Hb, Hheld⟩
  rw [wp_pure]; imodintro
  isplitl [Hst]; · iexact Hst
  isplitl [Hheld]; · iexact Hheld
  isplitl [Hb] <;> iassumption

/-- What the claims read of device `d`'s final state: every unscoped buffer. -/
def fq (d : Dev nD) (s' : Phys nD τ sig (Elt F)) : Prop :=
  ∀ b : Ref sig .tc, b.isScoped = false → s'.mem.mem ((d.tc : Thread nD τ).loc b) = VZ m d (Proc.devRef .tc b)

theorem hfin (d : Dev nD) (s' : Phys nD τ sig (Elt F)) : iprop(FIN m d ∗ SI s') ⊢ (⌜fq m d s'⌝ : sProp 𝕄) := by
  unfold fq FIN StableHlo.held
  iintro ⟨H, HSI⟩
  ihave %h := (SI_pointsTo_bufs_agree (qs := fun _ => fullShare) (ucRefs τ sig)) $$ [HSI H]
  · isplitl [HSI]; · iexact HSI
    iexact H
  ipureintro
  exact fun b hb => h _ (Pipeline.devRef_mem_ucRefs hb)

/-! ## The program's run -/

def QC : PUnit × MemSt nD τ sig (Elt F) → Prop := fun r =>
  (∀ (c : Dev nD) (b : Ref sig .tc), b.isScoped = false → r.2.mem ((c.tc : Thread nD τ).loc b) = VZ m c (Proc.devRef .tc b)) ∧ r.2.sem = fun _ => 0

theorem run_main (hidx : ∀ d (j : S1x32768.Idx), (fiM m d j : BitVec 32).toNat < 1032) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl (ftM m) (fiM m) (f0M m) hidx)
    (fun q _ => match q with | 0 => SparseCore.Cfg.VecSplit.of_plain (vecSplit (ftM m) (fiM m) (f0M m)))
    m ρ main G (FIN m) (u₀ (F := F)) (sep_elim_left.trans (hu₀ (ftM m) (fiM m) (f0M m))) (hmain m ρ) (fq m) (hfin m) (QC m) (fun _ h hz => ⟨h, hz⟩)

end Cert.Proof.Main

end
-- ==== Proof.Bound.lean ====
/-
  The row numbers the TensorCore call writes are at most 1024, whatever the distances: a minimum of words each a column
  number or 1024. So every one names a row of the table of 1032 rows, and the whole program's run needs no condition.
-/
module

public import proofs.«01_k».proof.Proof.Launch
public import Idealize.ShloMosaic.PureOps.Reduce
public import Idealize.ShloMosaic.Lib.ValueIdx

@[expose] public section

set_option maxRecDepth 16384

noncomputable section

namespace Cert.Proof.Main

open Cert.KernelIdeal Cert.KernelIdeal.Gen Cert.Proof.Tile Cert.Proof.Tc
open Idealize.ShloMosaic Idealize.ShloMosaic.TcCoe Idealize.ShloMosaic.Tactic
open Idealize.ShloMosaic.ValueIdx
open Idealize.SL.Sem

variable {F : FTy → Type} [FloatOps F]

/-- A minimum of signed words over a set, from an initial word: below the initial word and every word, and one of them. -/
theorem minsi_fold {ι : Type} [DecidableEq ι] (S : Finset ι) (a : BitVec 32) (f : ι → BitVec 32) :
    ((S.fold IntOp.minsi a f).toInt ≤ a.toInt ∧ ∀ i ∈ S, (S.fold IntOp.minsi a f).toInt ≤ (f i).toInt)
      ∧ (S.fold IntOp.minsi a f = a ∨ ∃ i ∈ S, S.fold IntOp.minsi a f = f i) := by
  induction S using Finset.induction_on with
  | empty => simp
  | insert i S hi ih =>
    rw [Finset.fold_insert hi]
    obtain ⟨⟨h1, h2⟩, h3⟩ := ih
    by_cases hc : (f i).slt (S.fold IntOp.minsi a f) = true
    · have e : IntOp.minsi (f i) (S.fold IntOp.minsi a f) = f i := by simp [IntOp.minsi, hc]
      rw [e]
      have hlt := BitVec.slt_iff_toInt_lt.1 hc
      refine ⟨⟨by omega, fun j hj => ?_⟩, Or.inr ⟨i, Finset.mem_insert_self _ _, rfl⟩⟩
      rcases Finset.mem_insert.1 hj with rfl | hj
      · exact le_rfl
      · have := h2 j hj; omega
    · have e : IntOp.minsi (f i) (S.fold IntOp.minsi a f) = S.fold IntOp.minsi a f := by simp [IntOp.minsi, hc]
      rw [e]
      have hge : ¬ (f i).toInt < (S.fold IntOp.minsi a f).toInt := fun h => hc (BitVec.slt_iff_toInt_lt.2 h)
      refine ⟨⟨h1, fun j hj => ?_⟩, ?_⟩
      · rcases Finset.mem_insert.1 hj with rfl | hj
        · omega
        · exact h2 j hj
      · rcases h3 with h | ⟨j, hj, h⟩
        · exact Or.inl h
        · exact Or.inr ⟨j, Finset.mem_insert_of_mem hj, h⟩

/-- The words the row number is the least of: the column where the distance is the row's least, 1024 elsewhere. -/
def cand (x0 : Vec F S2048x64 .f32) (x1 : Vec F S1024x64 .f32) (x2 : Vec F S2048x1 .f32) (x3 : Vec F S1x1024 .f32) : IVec S2048x1024 32 :=
  select (cmpf .oeq (k0_pay6 x0 x1 x2 x3) (broadcastTo S2048x1024 (k0_pay7 x0 x1 x2 x3) broadcasts_S2048x1_S2048x1024))
    (iota .tc S2048x1024 32 [1] iota_S2048x1024_d1_w32) (broadcast S2048x1024 1024#32)

theorem pay8_fold (x0 : Vec F S2048x64 .f32) (x1 : Vec F S1024x64 .f32) (x2 : Vec F S2048x1 .f32) (x3 : Vec F S1x1024 .f32) (j : S2048.Idx) :
    k0_pay8 x0 x1 x2 x3 j
      = (Finset.univ.filter fun i => reduces_S2048x1024_S2048.drop i = j).fold IntOp.minsi 2147483647#32 (cand x0 x1 x2 x3) :=
  multiReductionI_eq_fold .minsi (cand x0 x1 x2 x3) 2147483647#32 reduces_S2048x1024_S2048 rfl j

theorem iota_at (i : S2048x1024.Idx) : iota .tc S2048x1024 32 [1] iota_S2048x1024_d1_w32 i = BitVec.ofNat 32 (i 1).val := by
  show BitVec.ofNat 32 (0 * 1024 + (i 1).val) = _
  rw [Nat.zero_mul, Nat.zero_add]

theorem cand_le (x0 : Vec F S2048x64 .f32) (x1 : Vec F S1024x64 .f32) (x2 : Vec F S2048x1 .f32) (x3 : Vec F S1x1024 .f32) (i : S2048x1024.Idx) :
    (cand x0 x1 x2 x3 i).toNat ≤ 1024 := by
  unfold cand
  rw [select_apply, iota_at]
  have h := idx2_lt1 i
  unfold Scalar.select
  split
  · rw [BitVec.toNat_ofNat]; omega
  · show (1024#32 : BitVec 32).toNat ≤ 1024
    decide

theorem pay8_le (x0 : Vec F S2048x64 .f32) (x1 : Vec F S1024x64 .f32) (x2 : Vec F S2048x1 .f32) (x3 : Vec F S1x1024 .f32) (j : S2048.Idx) :
    (k0_pay8 x0 x1 x2 x3 j).toNat ≤ 1024 := by
  rw [pay8_fold]
  obtain ⟨⟨h1, h2⟩, h3⟩ := minsi_fold (Finset.univ.filter fun i => reduces_S2048x1024_S2048.drop i = j) 2147483647#32 (cand x0 x1 x2 x3)
  rcases h3 with h | ⟨i, -, h⟩
  · exfalso
    have hx := h2 (ix2 (n0 := 2048) (n1 := 1024) (j 0) 0)
      (Finset.mem_filter.2 ⟨Finset.mem_univ _, funext fun b => by
        obtain rfl : b = 0 := Subsingleton.elim _ _
        exact Fin.ext (reduces_S2048x1024_S2048.drop_apply_val_of_eq _ 0 0)⟩)
    have hc := cand_le x0 x1 x2 x3 (ix2 (n0 := 2048) (n1 := 1024) (j 0) 0)
    rw [BitVec.toInt_eq_toNat_of_lt (x := cand x0 x1 x2 x3 _) (by omega), h,
      show (2147483647#32 : BitVec 32).toInt = 2147483647 by decide] at hx
    omega
  · rw [h]; exact cand_le x0 x1 x2 x3 i

theorem shapeCast_mem {s t : Shape} {α : Type} (f : s.Idx → α) (h : s.ShapeCasts t) (j : t.Idx) : ∃ i, shapeCast t f h j = f i := ⟨_, rfl⟩

theorem pay10_le (x0 : Vec F S2048x64 .f32) (x1 : Vec F S1024x64 .f32) (x2 : Vec F S2048x1 .f32) (x3 : Vec F S1x1024 .f32) (j : S2048x1.Idx) :
    (k0_pay10 x0 x1 x2 x3 j).toNat ≤ 1024 := by
  unfold k0_pay10
  obtain ⟨i, e⟩ := shapeCast_mem (k0_pay8 x0 x1 x2 x3) shapeCasts_S2048_S2048x1 j
  rw [e]; exact pay8_le x0 x1 x2 x3 i

variable (m : (ℓ : Loc nD τ sig) → Buf (Elt F) ℓ)

theorem fiM_eq (d : Dev nD) : fiM m d = shapeCast S1x32768 (WA (VA m) d (Proc.devRef .tc main_v8_1)) shapeCasts_S32768x1_S1x32768 := by
  unfold fiM VB opsB
  after_results
  rfl

theorem WA_5 (d : Dev nD) : WA (VA m) d (Proc.devRef .tc main_v8_1) = G5 (VW (VA m)) d :=
  (Pipeline.afterRegion_arr (pdats (VA m) 0 d) (VA m d) winFacts0.arr_inj 5).trans (final5 (VW (VA m)) d)

theorem hidx (d : Dev nD) (j : S1x32768.Idx) : (fiM m d j : BitVec 32).toNat < 1032 := by
  rw [fiM_eq]
  obtain ⟨i, e⟩ := shapeCast_mem (WA (VA m) d (Proc.devRef .tc main_v8_1)) shapeCasts_S32768x1_S1x32768 j
  rw [e, WA_5]
  have := pay10_le (iblk (VW (VA m)) d 0 (ptOf (i 0))) (iblk (VW (VA m)) d 1 (ptOf (i 0))) (iblk (VW (VA m)) d 2 (ptOf (i 0))) (iblk (VW (VA m)) d 3 (ptOf (i 0))) (loc5Of i)
  exact Nat.lt_of_le_of_lt this (by decide)

theorem run (ρ : Dev nD → PrngReg) :
    θ_run (Cert.KernelIdeal.defs (F := F)) (Cert.KernelIdeal.threads (F := F)) ⟨m, fun _ => 0, ρ⟩ (QC m) := run_main m ρ (hidx m)

/-- The arguments are where they were. -/
theorem VC_of_ne (d : Dev nD) (b : DevRef τ sig) (h : b ≠ o') : VC m d b = VB m d b := Function.update_of_ne h _ _

theorem VA_arg0 (d : Dev nD) : VA m d (Proc.devRef .tc main_arg0) = m ((d : Thread nD τ).loc main_arg0) := by
  unfold VA opsA
  after_results
theorem VA_arg1 (d : Dev nD) : VA m d (Proc.devRef .tc main_arg1) = m ((d : Thread nD τ).loc main_arg1) := by
  unfold VA opsA
  after_results
theorem arg0_ne : ∀ w, main_arg0 ≠ Pipeline.arrRef spec0 w := by decide
theorem WA_arg0 (d : Dev nD) : WA (VA m) d (Proc.devRef .tc main_arg0) = m ((d : Thread nD τ).loc main_arg0) :=
  (Pipeline.afterRegion_of_not_arr (pdats (VA m) 0 d) (VA m d) (fun w => arg0_ne w)).trans (VA_arg0 m d)
theorem WA_arg1 (d : Dev nD) : WA (VA m) d (Proc.devRef .tc main_arg1) = m ((d : Thread nD τ).loc main_arg1) :=
  ((Pipeline.afterRegion_arr (pdats (VA m) 0 d) (VA m d) winFacts0.arr_inj 1).trans ((pdats (VA m) 0 d).arrAt_in 1 rfl _)).trans (VA_arg1 m d)
theorem VZ_arg0 (d : Dev nD) : VZ m d (Proc.devRef .tc main_arg0) = m ((d : Thread nD τ).loc main_arg0) := by
  unfold VZ opsC
  after_results
  rw [VC_of_ne _ _ _ (by decide)]
  unfold VB opsB
  after_results
  exact WA_arg0 m d
theorem VZ_arg1 (d : Dev nD) : VZ m d (Proc.devRef .tc main_arg1) = m ((d : Thread nD τ).loc main_arg1) := by
  unfold VZ opsC
  after_results
  rw [VC_of_ne _ _ _ (by decide)]
  unfold VB opsB
  after_results
  exact WA_arg1 m d

end Cert.Proof.Main

end
-- ==== Proof.Twin.lean ====
/-
  The kernel as printed and its idealized text are one program, named twice: their body tables, their `main` and their
  threads are equal.
-/
module

public import proofs.«01_k».proof.Defs
public import proofs.«01_k».proof.Proof.Gen.Kernel
public import proofs.«01_k».proof.Proof.Gen.KernelIdeal
@[expose] public section

set_option maxHeartbeats 1000000

noncomputable section

namespace Cert.Proof

open Idealize.ShloMosaic Idealize.ShloMosaic.TcCoe Idealize.SL.Sem

theorem body0_eq (t s) : Cert.Kernel.defs₀ (F := Bits) .tc 0 (t, s) = Cert.KernelIdeal.defs₀ (F := Bits) .tc 0 (t, s) := rfl
theorem body1_eq (c s a) : Cert.Kernel.defs₀ (F := Bits) (.scVector c s) 1 a = Cert.KernelIdeal.defs₀ (F := Bits) (.scVector c s) 1 a := rfl
theorem defs₀_eq : Cert.Kernel.defs₀ (F := Bits) = Cert.KernelIdeal.defs₀ (F := Bits) := by
  funext p l a
  match p, l, a with
  | .tc, 0, (t, s) => exact body0_eq t s
  | .tc, 1, a => rfl
  | .scScalar c, 0, a => rfl
  | .scScalar c, 1, a => rfl
  | .scVector c s, 0, a => rfl
  | .scVector c s, 1, a => exact body1_eq c s a
theorem sc_eq : Cert.Kernel.sc (F := Bits) = Cert.KernelIdeal.sc (F := Bits) := rfl
theorem defs_eq : Cert.Kernel.defs (F := Bits) = Cert.KernelIdeal.defs (F := Bits) := by
  unfold Cert.Kernel.defs Cert.KernelIdeal.defs
  rw [defs₀_eq]
  rfl
theorem main_eq : Cert.Kernel.main (F := Bits) = Cert.KernelIdeal.main (F := Bits) := by
  rfl
theorem threads_eq : Cert.Kernel.threads (F := Bits) = Cert.KernelIdeal.threads (F := Bits) := by
  show Cert.Kernel.sc.threads Cert.Kernel.main = _
  rw [main_eq]
  rfl

end Cert.Proof

end
-- ==== Proof.Frames.lean ====
/-
  The frame claims: of the kernel at its machine words and at extended reals, from the one run; of the reference, from
  its own operations.
-/
module

public import proofs.«01_k».proof.Defs
public import proofs.«01_k».proof.Proof.Bound
public import proofs.«01_k».proof.Proof.Twin
public import proofs.«01_k».proof.Proof.Gen.Kernel
public import proofs.«01_k».proof.Proof.Gen.KernelIdeal
public import proofs.«01_k».proof.Proof.Gen.ReferenceIdeal
public import proofs.«01_k».proof.Proof.Gen.Pre_finite
public import Idealize.ShloMosaic.Lib.Claim

@[expose] public section

set_option maxRecDepth 16384

noncomputable section

namespace Cert.Proof

open Idealize.ShloMosaic Idealize.ShloMosaic.TcCoe Idealize.SL.Sem

variable {F : FTy → Type} [FloatOps F]

theorem frame_gen (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (Cert.KernelIdeal.threads (F := F)) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  θ_run_mono (Main.run m ρ)
    (fun r h => ⟨fun c => ⟨(h.1 c Cert.KernelIdeal.main_arg0 rfl).trans (Main.VZ_arg0 m c), (h.1 c Cert.KernelIdeal.main_arg1 rfl).trans (Main.VZ_arg1 m c)⟩, h.2⟩)

theorem frame_KernelIdeal : Cert.quiescent_KernelIdeal := fun m ρ _ => frame_gen m ρ

theorem frame_KernelIdeal_pre : Cert.quiescent_KernelIdeal_pre_finite := fun m ρ _ => frame_KernelIdeal m ρ trivial

set_option maxHeartbeats 1000000 in
theorem frame_Kernel : Cert.quiescent_Kernel := by
  intro m ρ _
  have h := frame_gen (F := Bits) m ρ
  rw [← defs_eq, ← threads_eq] at h
  exact h

theorem frame_ReferenceIdeal : Cert.quiescent_ReferenceIdeal := by
  intro m g _
  refine (θ_run Cert.ReferenceIdeal.defs _ _).mono (fun r h => ⟨h, Idealize.ShloMosaic.sem_eq_zero_of_no_sems (by decide) r.2⟩) (?_ : θ_run _ _ _ (fun r => ∀ c : Dev Cert.ReferenceIdeal.nD, _ ∧ _))
  hlo_run

theorem frame_ReferenceIdeal_pre : Cert.quiescent_ReferenceIdeal_pre_finite := fun m ρ _ => frame_ReferenceIdeal m ρ trivial

end Cert.Proof

end
-- ==== Proof.Math.lean ====
/-
  The arithmetic of the claim over the reals: the squared distance of a row to a code word, the first nearest code word,
  and the sums that the blocks of rows cut.
-/
module

public import Idealize.ShloMosaic.PureOps.Ideal.Laws
public import Mathlib.Data.Prod.Lex
public import Mathlib.Algebra.BigOperators.Fin

@[expose] public section

noncomputable section

namespace Cert.Proof.Val

open Idealize.ShloMosaic

/-- The squared distance of row `a` to code word `k`, as the kernel sums it. -/
def dist (a : Fin 64 → ℝ) (w : Fin 1024 → Fin 64 → ℝ) (k : Fin 1024) : ℝ :=
  (∑ c, a c * a c - ∑ c, (a c + a c) * w k c) + ∑ c, w k c * w k c

theorem exists_near (a : Fin 64 → ℝ) (w : Fin 1024 → Fin 64 → ℝ) :
    ∃ k, ∀ k', dist a w k ≤ dist a w k' ∧ (dist a w k' = dist a w k → k ≤ k') := by
  obtain ⟨k, hk⟩ := Finite.exists_min (fun k : Fin 1024 => toLex (dist a w k, k))
  refine ⟨k, fun k' => ?_⟩
  rcases (Prod.Lex.le_iff.1 (hk k')) with h | ⟨h, h'⟩
  · exact ⟨le_of_lt h, fun e => absurd e (ne_of_gt h)⟩
  · exact ⟨le_of_eq h, fun _ => h'⟩

/-- The first code word nearest to row `a`. -/
def near (a : Fin 64 → ℝ) (w : Fin 1024 → Fin 64 → ℝ) : Fin 1024 := (exists_near a w).choose

theorem near_le (a : Fin 64 → ℝ) (w : Fin 1024 → Fin 64 → ℝ) (k : Fin 1024) : dist a w (near a w) ≤ dist a w k :=
  ((exists_near a w).choose_spec k).1

theorem near_first (a : Fin 64 → ℝ) (w : Fin 1024 → Fin 64 → ℝ) (k : Fin 1024) (h : dist a w k = dist a w (near a w)) :
    near a w ≤ k := ((exists_near a w).choose_spec k).2 h

theorem dist_eq (a : Fin 64 → ℝ) (w : Fin 1024 → Fin 64 → ℝ) (k : Fin 1024) :
    dist a w k = ∑ c, (w k c - a c) * (w k c - a c) := by
  unfold dist
  rw [← Finset.sum_sub_distrib, ← Finset.sum_add_distrib]
  exact Finset.sum_congr rfl fun c _ => by ring

theorem dist_two (a : Fin 64 → ℝ) (w : Fin 1024 → Fin 64 → ℝ) (k : Fin 1024) :
    dist a w k = (∑ c, a c * a c - 2 * ∑ c, a c * w k c) + ∑ c, w k c * w k c := by
  unfold dist
  rw [Finset.mul_sum]
  congr 2
  exact Finset.sum_congr rfl fun c _ => by ring

/-- A finite sum of reals, read in the extended reals. -/
theorem coe_sum {ι : Type} [Fintype ι] (f : ι → ℝ) : ((∑ i, f i : ℝ) : EReal) = ∑ i, (f i : EReal) := by
  classical
  have h : ∀ S : Finset ι, ((∑ i ∈ S, f i : ℝ) : EReal) = ∑ i ∈ S, (f i : EReal) := by
    intro S
    induction S using Finset.induction_on with
    | empty => simp
    | insert i S hi ih => rw [Finset.sum_insert hi, Finset.sum_insert hi, EReal.coe_add, ih]
  exact h _

/-- The least of finitely many extended reals, from the greatest. -/
theorem fold_min_near (a : Fin 64 → ℝ) (w : Fin 1024 → Fin 64 → ℝ) :
    Finset.univ.fold min (⊤ : EReal) (fun k : Fin 1024 => ((dist a w k : ℝ) : EReal)) = ((dist a w (near a w) : ℝ) : EReal) := by
  refine le_antisymm ?_ ?_
  · exact (Finset.fold_min_le _).2 (Or.inr ⟨near a w, Finset.mem_univ _, le_rfl⟩)
  · exact (Finset.le_fold_min _).2 ⟨le_top, fun k _ => EReal.coe_le_coe_iff.2 (near_le a w k)⟩

/-- Row `ρ` of block `t`. -/
def rowOf (t : Fin 16) (ρ : Fin 2048) : Fin 32768 := ⟨2048 * t.val + ρ.val, by omega⟩

/-- A sum over all rows is the sum over the blocks of the sums over their rows. -/
theorem sum_rows (f : Fin 32768 → EReal) : ∑ r, f r = ∑ t : Fin 16, ∑ ρ : Fin 2048, f (rowOf t ρ) := by
  rw [← Finset.sum_product']
  refine (Finset.sum_bij' (fun r _ => ((⟨r.val / 2048, by omega⟩ : Fin 16), (⟨r.val % 2048, Nat.mod_lt _ (by decide)⟩ : Fin 2048)))
    (fun p _ => rowOf p.1 p.2) ?_ ?_ ?_ ?_ ?_)
  · intros; simp
  · intros; simp
  · intro r _; apply Fin.ext; show 2048 * (r.val / 2048) + r.val % 2048 = r.val; omega
  · rintro ⟨t, ρ⟩ _
    have ht := t.isLt
    have hρ := ρ.isLt
    refine Prod.ext (Fin.ext ?_) (Fin.ext ?_)
    · show (2048 * t.val + ρ.val) / 2048 = t.val; omega
    · show (2048 * t.val + ρ.val) % 2048 = ρ.val; omega
  · intro r _
    congr 1
    apply Fin.ext; show r.val = 2048 * (r.val / 2048) + r.val % 2048; omega

/-! ## Numbers as words -/

theorem ofNat_eq_iff (k k' : Fin 1024) : BitVec.ofNat 32 k.val = BitVec.ofNat 32 k'.val ↔ k = k' := by
  constructor
  · intro e
    have e' := congrArg BitVec.toNat e
    rw [BitVec.toNat_ofNat, BitVec.toNat_ofNat] at e'
    apply Fin.ext
    omega
  · rintro rfl; rfl

/-! ## What the results are -/

/-- Row `r` of the flattened images. -/
def rowX (z : Fin 32 → Fin 64 → Fin 32 → Fin 32 → ℝ) (r : Fin 32768) (c : Fin 64) : ℝ :=
  z ⟨r.val / 1024, by omega⟩ c ⟨r.val / 32 % 32, by omega⟩ ⟨r.val % 32, by omega⟩

/-- Row `r`'s nearest code word. -/
def nr (z : Fin 32 → Fin 64 → Fin 32 → Fin 32 → ℝ) (w : Fin 1024 → Fin 64 → ℝ) (r : Fin 32768) : Fin 1024 := near (rowX z r) w

/-- How many rows have code word `k` nearest. -/
def cnt (z : Fin 32 → Fin 64 → Fin 32 → Fin 32 → ℝ) (w : Fin 1024 → Fin 64 → ℝ) (k : Fin 1024) : EReal :=
  ∑ r : Fin 32768, if k = nr z w r then (1 : EReal) else 0
/-- The sum of the least distances. -/
def tot (z : Fin 32 → Fin 64 → Fin 32 → Fin 32 → ℝ) (w : Fin 1024 → Fin 64 → ℝ) : ℝ :=
  ∑ r : Fin 32768, dist (rowX z r) w (nr z w r)

/-- The perplexity of the counts. -/
def perp (n : Fin 1024 → EReal) : EReal :=
  Ideal.exp (- ∑ k : Fin 1024, Ideal.div (n k) (Ideal.ofBits .f32 0x47000000#32)
      * Ideal.log (Ideal.div (n k) (Ideal.ofBits .f32 0x47000000#32) + Ideal.ofBits .f32 0x2EDBE6FF#32))

/-! ## The literals -/

theorem lit_inf : Ideal.ofBits .f32 0x7F800000#32 = ⊤ := by simp [Ideal.ofBits, Ideal.ieee, -EReal.coe_mul]
theorem lit_two : Ideal.ofBits .f32 0x40000000#32 = ((2 : ℝ) : EReal) := by
  simp [Ideal.ofBits, Ideal.ieee, -EReal.coe_mul]
  norm_num
theorem lit_n : Ideal.ofBits .f32 0x4A000000#32 = ((2097152 : ℝ) : EReal) := by
  simp [Ideal.ofBits, Ideal.ieee, -EReal.coe_mul]
  norm_num
theorem lit_rows : Ideal.ofBits .f32 0x47000000#32 = ((32768 : ℝ) : EReal) := by
  simp [Ideal.ofBits, Ideal.ieee, -EReal.coe_mul]
  norm_num
theorem lit_five : Ideal.ofBits .f32 0x3FA00000#32 = ((1.25 : ℝ) : EReal) := by
  simp [Ideal.ofBits, Ideal.ieee, -EReal.coe_mul]
  norm_num
theorem lit_quarter : Ideal.ofBits .f32 0x3E800000#32 = ((0.25 : ℝ) : EReal) := by
  simp [Ideal.ofBits, Ideal.ieee, -EReal.coe_mul]
  norm_num

/-- Division of reals by a real that is not zero. -/
theorem div_coe (a b : ℝ) (hb : b ≠ 0) : Ideal.div (a : EReal) (b : EReal) = ((a / b : ℝ) : EReal) := by
  unfold Ideal.div
  rw [if_neg (fun h => hb (EReal.coe_eq_zero.1 h)), ← EReal.coe_inv, ← EReal.coe_mul, div_eq_mul_inv]

end Cert.Proof.Val

end
-- ==== Proof.PayVal.lean ====
/-
  The payloads of the TensorCore body read at an index over the extended reals, at blocks that hold reals.
-/
module

public import proofs.«01_k».proof.Proof.Bound
public import proofs.«01_k».proof.Proof.Math
public import Idealize.ShloMosaic.Lib.Pointwise
public import Idealize.ShloMosaic.Lib.IdealHost

@[expose] public section

set_option maxRecDepth 16384

noncomputable section

namespace Cert.Proof.Val

open Cert.KernelIdeal Cert.KernelIdeal.Gen
open Idealize.ShloMosaic

variable (x0 : Vec Ideal S2048x64 .f32) (x1 : Vec Ideal S1024x64 .f32) (x2 : Vec Ideal S2048x1 .f32) (x3 : Vec Ideal S1x1024 .f32)
variable (X : Fin 2048 → Fin 64 → ℝ) (w : Fin 1024 → Fin 64 → ℝ)

/-- The blocks hold the rows `X`, the code words `w`, and their squared lengths. -/
structure Holds : Prop where
  z : ∀ ρ c, x0 (ix2 ρ c) = ((X ρ c : ℝ) : EReal)
  cw : ∀ k c, x1 (ix2 k c) = ((w k c : ℝ) : EReal)
  z2 : ∀ ρ, x2 (ix2 ρ 0) = ((∑ c, X ρ c * X ρ c : ℝ) : EReal)
  w2 : ∀ k, x3 (ix2 0 k) = ((∑ c, w k c * w k c : ℝ) : EReal)

variable {x0 x1 x2 x3 X w}

theorem pay6_at (h : Holds x0 x1 x2 x3 X w) (ρ : Fin 2048) (k : Fin 1024) :
    k0_pay6 x0 x1 x2 x3 (ix2 ρ k) = ((dist (X ρ) w k : ℝ) : EReal) := by
  pointwise [k0_pay6]
  rw [h.z2, h.w2]
  simp only [h.z, h.cw, ← EReal.coe_add, ← EReal.coe_mul]
  rw [← coe_sum, ← EReal.coe_sub, ← EReal.coe_add]
  rfl

theorem pay7_at (h : Holds x0 x1 x2 x3 X w) (ρ : Fin 2048) :
    k0_pay7 x0 x1 x2 x3 (ix2 ρ 0) = ((dist (X ρ) w (near (X ρ) w) : ℝ) : EReal) := by
  have h6 := pay6_at h ρ
  unfold k0_pay7
  generalize k0_pay6 x0 x1 x2 x3 = P at h6
  pointwise
  simp only [h6, lit_inf]
  exact fold_min_near _ _

theorem cand_at (h : Holds x0 x1 x2 x3 X w) (ρ : Fin 2048) (k : Fin 1024) :
    Main.cand x0 x1 x2 x3 (ix2 ρ k)
      = if dist (X ρ) w k = dist (X ρ) w (near (X ρ) w) then BitVec.ofNat 32 k.val else 1024#32 := by
  have h6 := pay6_at h ρ
  have h7 := pay7_at h ρ
  unfold Main.cand
  generalize k0_pay6 x0 x1 x2 x3 = P at h6
  generalize k0_pay7 x0 x1 x2 x3 = Q at h7
  pointwise
  simp only [h6, h7, EReal.coe_eq_coe_iff]

theorem pay8_at (h : Holds x0 x1 x2 x3 X w) (ρ : Fin 2048) :
    k0_pay8 x0 x1 x2 x3 (ix1 ρ) = BitVec.ofNat 32 (near (X ρ) w).val := by
  have hc := cand_at h ρ
  rw [Main.pay8_fold]
  generalize Main.cand x0 x1 x2 x3 = C at hc
  have hrow : ∀ i : S2048x1024.Idx, reduces_S2048x1024_S2048.drop i = ix1 ρ ↔ ∃ k : Fin 1024, i = ix2 ρ k := by
    intro i
    constructor
    · intro e
      have e0 := congrArg (fun j : S2048.Idx => (j 0).val) e
      refine ⟨i 1, ?_⟩
      have : i 0 = ρ := Fin.ext ((reduces_S2048x1024_S2048.drop_apply_val_of_eq i 0 0).symm.trans e0)
      rw [← this]; exact eq_ix2 i
    · rintro ⟨k, rfl⟩
      funext b
      obtain rfl : b = 0 := Subsingleton.elim _ _
      exact Fin.ext (reduces_S2048x1024_S2048.drop_apply_val_of_eq _ 0 0)
  have hn := (near (X ρ) w).isLt
  have toI : ∀ k : Fin 1024, (BitVec.ofNat 32 k.val).toInt = k.val := fun k => by
    rw [BitVec.toInt_eq_toNat_of_lt (by rw [BitVec.toNat_ofNat]; omega), BitVec.toNat_ofNat]; omega
  obtain ⟨⟨h1, h2⟩, h3⟩ := Main.minsi_fold (Finset.univ.filter fun i => reduces_S2048x1024_S2048.drop i = ix1 ρ) 2147483647#32 C
  have hx := h2 (ix2 ρ (near (X ρ) w)) (Finset.mem_filter.2 ⟨Finset.mem_univ _, (hrow _).2 ⟨_, rfl⟩⟩)
  rw [hc, if_pos rfl, toI] at hx
  rcases h3 with e | ⟨i, hi, e⟩
  · exfalso
    rw [e, show (2147483647#32 : BitVec 32).toInt = 2147483647 by decide] at hx
    omega
  · obtain ⟨k, rfl⟩ := (hrow i).1 (Finset.mem_filter.1 hi).2
    rw [e] at hx ⊢
    rw [hc] at hx ⊢
    split at hx
    · rename_i hd
      rw [if_pos hd]
      rw [toI] at hx
      have := near_first _ _ _ hd
      congr 1
      have h' : (near (X ρ) w).val ≤ k.val := this
      omega
    · exfalso
      rw [show (1024#32 : BitVec 32).toInt = 1024 by decide] at hx
      omega

theorem pay10_at (h : Holds x0 x1 x2 x3 X w) (ρ : Fin 2048) :
    k0_pay10 x0 x1 x2 x3 (ix2 ρ 0) = BitVec.ofNat 32 (near (X ρ) w).val := by
  have h8 := pay8_at h ρ
  unfold k0_pay10
  generalize k0_pay8 x0 x1 x2 x3 = P at h8
  pointwise
  exact h8

theorem pay9_at (h : Holds x0 x1 x2 x3 X w) (ρ : Fin 2048) (k : Fin 1024) :
    k0_pay9 x0 x1 x2 x3 (ix2 ρ k) = if k = near (X ρ) w then (1 : EReal) else 0 := by
  have h8 := pay8_at h ρ
  unfold k0_pay9
  generalize k0_pay8 x0 x1 x2 x3 = P at h8
  pointwise
  rw [h8]
  by_cases e : k = near (X ρ) w
  · rw [if_pos e, show IntOp.cmpi .eq (BitVec.ofNat 32 k.val) (BitVec.ofNat 32 (near (X ρ) w).val) = 1#1 by
      rw [(ofNat_eq_iff _ _).2 e]; simp [IntOp.cmpi]]
    show (((BitVec.setWidth 32 (1#1)).toInt : ℝ) : EReal) = 1
    rw [show (BitVec.setWidth 32 (1#1)).toInt = 1 by decide]
    simp
  · rw [if_neg e, show IntOp.cmpi .eq (BitVec.ofNat 32 k.val) (BitVec.ofNat 32 (near (X ρ) w).val) = 0#1 by
      have := fun h => e ((ofNat_eq_iff _ _).1 h)
      show BitVec.ofBool (BitVec.ofNat 32 k.val == BitVec.ofNat 32 (near (X ρ) w).val) = 0#1
      rw [beq_eq_false_iff_ne.2 this]; rfl]
    show (((BitVec.setWidth 32 (0#1)).toInt : ℝ) : EReal) = 0
    rw [show (BitVec.setWidth 32 (0#1)).toInt = 0 by decide]
    simp

theorem pay11_at (h : Holds x0 x1 x2 x3 X w) :
    k0_pay11 x0 x1 x2 x3 = ((∑ ρ, dist (X ρ) w (near (X ρ) w) : ℝ) : EReal) := by
  have h7 := pay7_at h
  unfold k0_pay11
  generalize k0_pay7 x0 x1 x2 x3 = P at h7
  pointwise
  rw [coe_sum]
  exact Finset.sum_congr rfl fun ρ _ => by rw [Fin.sum_univ_one]; exact h7 ρ

theorem pay12_at (h : Holds x0 x1 x2 x3 X w) (k : Fin 1024) :
    k0_pay12 x0 x1 x2 x3 (ix2 0 k) = ∑ ρ : Fin 2048, if k = near (X ρ) w then (1 : EReal) else 0 := by
  have h9 := fun ρ => pay9_at h ρ k
  unfold k0_pay12
  generalize k0_pay9 x0 x1 x2 x3 = P at h9
  pointwise
  exact Finset.sum_congr rfl fun ρ _ => h9 ρ

theorem pay1_at (k : Fin 1024) : (k0_pay1 (F := Ideal)) (ix2 0 k) = 0 := by
  pointwise [k0_pay1]

theorem pay4_at (v : EReal) (j : S1x1.Idx) :
    k0_pay4 (F := Ideal) v j = Ideal.ofBits .f32 0x3FA00000#32 * Ideal.div v (Ideal.ofBits .f32 0x4A000000#32) := by
  unfold k0_pay4
  pointwise

theorem pay5_at (n : Vec Ideal S1x1024 .f32) (j : S1x1.Idx) :
    k0_pay5 (F := Ideal) n j = Ideal.exp (0 - ∑ k : Fin 1024, Ideal.div (n (ix2 0 k)) (Ideal.ofBits .f32 0x47000000#32)
      * Ideal.log (Ideal.div (n (ix2 0 k)) (Ideal.ofBits .f32 0x47000000#32) + Ideal.ofBits .f32 0x2EDBE6FF#32)) := by
  unfold k0_pay5
  pointwise
  simp only [Finset.univ_unique, Finset.sum_singleton]
  rfl

end Cert.Proof.Val

end
-- ==== Proof.KVal.lean ====
/-
  What the TensorCore region reads and leaves, over the extended reals at arguments that hold reals.
-/
module

public import proofs.«01_k».proof.Proof.PayVal

@[expose] public section

set_option maxRecDepth 16384

noncomputable section

namespace Cert.Proof.Val

open Cert.KernelIdeal Cert.KernelIdeal.Gen Cert.Proof.Tile Cert.Proof.Tc Cert.Proof.Main
open Idealize.ShloMosaic Idealize.ShloMosaic.TcCoe Idealize.ShloMosaic.Tactic

variable (m : (ℓ : Loc nD τ sig) → Buf (Elt Ideal) ℓ) (d : Dev nD)
variable (z : Fin 32 → Fin 64 → Fin 32 → Fin 32 → ℝ) (w : Fin 1024 → Fin 64 → ℝ)

/-- The two arguments hold the reals `z` and `w`. -/
structure Args : Prop where
  z : ∀ b c i j, (m ((d : Thread nD τ).loc main_arg0) : S32x64x32x32.Idx → EReal) (ix4 b c i j) = ((z b c i j : ℝ) : EReal)
  cw : ∀ k c, (m ((d : Thread nD τ).loc main_arg1) : S1024x64.Idx → EReal) (ix2 k c) = ((w k c : ℝ) : EReal)

variable {m d z w}

theorem v1_at (h : Args m d z w) (r : Fin 32768) (c : Fin 64) :
    (VA m d (Proc.devRef .tc main_v1) : S32768x64.Idx → EReal) (ix2 r c) = ((rowX z r c : ℝ) : EReal) := by
  have hz : ∀ b c i j, (StableHlo.launchContents m d (Proc.devRef .tc main_arg0) : S32x64x32x32.Idx → EReal) (ix4 b c i j) = ((z b c i j : ℝ) : EReal) := h.z
  unfold VA opsA
  after_results
  pointwise
  rw [hz]
  rfl

theorem v4_at (h : Args m d z w) (r : Fin 32768) :
    (VA m d (Proc.devRef .tc main_v4) : S32768x1.Idx → EReal) (ix2 r 0) = ((∑ c, rowX z r c * rowX z r c : ℝ) : EReal) := by
  have hz : ∀ b c i j, (StableHlo.launchContents m d (Proc.devRef .tc main_arg0) : S32x64x32x32.Idx → EReal) (ix4 b c i j) = ((z b c i j : ℝ) : EReal) := h.z
  unfold VA opsA
  after_results
  pointwise
  simp only [hz, ← EReal.coe_mul]
  rw [← coe_sum]
  rfl

theorem v7_at (h : Args m d z w) (k : Fin 1024) :
    (VA m d (Proc.devRef .tc main_v7) : S1x1024.Idx → EReal) (ix2 0 k) = ((∑ c, w k c * w k c : ℝ) : EReal) := by
  have hw : ∀ k c, (StableHlo.launchContents m d (Proc.devRef .tc main_arg1) : S1024x64.Idx → EReal) (ix2 k c) = ((w k c : ℝ) : EReal) := h.cw
  unfold VA opsA
  after_results
  pointwise
  simp only [hw, ← EReal.coe_mul]
  rw [← coe_sum]

theorem idx_facts0 : ∀ t : Fin cfg0.N, win0_0.index t (0 : Fin 2) = t.val ∧ win0_0.index t (1 : Fin 2) = 0 :=
  (by decide +kernel : ∀ t : Fin grid0.N, _)
theorem idx_facts1 : ∀ t : Fin cfg0.N, win0_1.index t (0 : Fin 2) = 0 ∧ win0_1.index t (1 : Fin 2) = 0 :=
  (by decide +kernel : ∀ t : Fin grid0.N, _)
theorem idx_facts2 : ∀ t : Fin cfg0.N, win0_2.index t (0 : Fin 2) = t.val ∧ win0_2.index t (1 : Fin 2) = 0 :=
  (by decide +kernel : ∀ t : Fin grid0.N, _)
theorem idx_facts3 : ∀ t : Fin cfg0.N, win0_3.index t (0 : Fin 2) = 0 ∧ win0_3.index t (1 : Fin 2) = 0 :=
  (by decide +kernel : ∀ t : Fin grid0.N, _)

section Blocks
variable {F : FTy → Type} [FloatOps F]
variable (V : (c : Dev nD) → (b : Ref sig .tc) → Buf (Elt F) ((c : Thread nD τ).loc b)) (c : Dev nD) (t : Fin cfg0.N)

theorem lt16 : t.val < 16 := lt_of_lt_of_eq t.isLt N_0

theorem iblk0_at (ρ : Fin 2048) (k : Fin 64) :
    (iblk V c 0 t : S2048x64.Idx → F .f32) (ix2 ρ k) = (V c main_v1 : S32768x64.Idx → F .f32) (ix2 (rowOf ⟨t.val, lt16 t⟩ ρ) k) := by
  obtain ⟨e0, e1⟩ := idx_facts0 t
  show V c main_v1 (((cfg0.win 0).blk t).view.emb (ix2 ρ k)) = _
  congr 1
  funext a; apply Fin.ext
  match a with
  | ⟨0, _⟩ => show win0_0.index t (0 : Fin 2) * 2048 + 1 * ρ.val = 2048 * t.val + ρ.val; omega
  | ⟨1, _⟩ => show win0_0.index t (1 : Fin 2) * 64 + 1 * k.val = k.val; omega
theorem iblk1_at (ρ : Fin 1024) (k : Fin 64) :
    (iblk V c 1 t : S1024x64.Idx → F .f32) (ix2 ρ k) = (V c main_arg1 : S1024x64.Idx → F .f32) (ix2 ρ k) := by
  obtain ⟨e0, e1⟩ := idx_facts1 t
  show V c main_arg1 (((cfg0.win 1).blk t).view.emb (ix2 ρ k)) = _
  congr 1
  funext a; apply Fin.ext
  match a with
  | ⟨0, _⟩ => show win0_1.index t (0 : Fin 2) * 1024 + 1 * ρ.val = ρ.val; omega
  | ⟨1, _⟩ => show win0_1.index t (1 : Fin 2) * 64 + 1 * k.val = k.val; omega
theorem iblk2_at (ρ : Fin 2048) :
    (iblk V c 2 t : S2048x1.Idx → F .f32) (ix2 ρ 0) = (V c main_v4 : S32768x1.Idx → F .f32) (ix2 (rowOf ⟨t.val, lt16 t⟩ ρ) 0) := by
  obtain ⟨e0, e1⟩ := idx_facts2 t
  show V c main_v4 (((cfg0.win 2).blk t).view.emb (ix2 ρ 0)) = _
  congr 1
  funext a; apply Fin.ext
  match a with
  | ⟨0, _⟩ => show win0_2.index t (0 : Fin 2) * 2048 + 1 * ρ.val = 2048 * t.val + ρ.val; omega
  | ⟨1, _⟩ => show win0_2.index t (1 : Fin 2) * 1 + 1 * 0 = 0; omega
theorem iblk3_at (k : Fin 1024) :
    (iblk V c 3 t : S1x1024.Idx → F .f32) (ix2 0 k) = (V c main_v7 : S1x1024.Idx → F .f32) (ix2 0 k) := by
  obtain ⟨e0, e1⟩ := idx_facts3 t
  show V c main_v7 (((cfg0.win 3).blk t).view.emb (ix2 0 k)) = _
  congr 1
  funext a; apply Fin.ext
  match a with
  | ⟨0, _⟩ => show win0_3.index t (0 : Fin 2) * 1 + 1 * 0 = 0; omega
  | ⟨1, _⟩ => show win0_3.index t (1 : Fin 2) * 1024 + 1 * k.val = k.val; omega
end Blocks

/-- The blocks of point `t` hold the rows of block `t`. -/
theorem holds (h : Args m d z w) (t : Fin cfg0.N) :
    Holds (iblk (VW (VA m)) d 0 t) (iblk (VW (VA m)) d 1 t) (iblk (VW (VA m)) d 2 t) (iblk (VW (VA m)) d 3 t)
      (fun ρ => rowX z (rowOf ⟨t.val, lt16 t⟩ ρ)) w where
  z ρ c := (iblk0_at (VW (VA m)) d t ρ c).trans (v1_at h _ _)
  cw k c := (iblk1_at (VW (VA m)) d t k c).trans ((congrFun (VA_arg1 m d) _).trans (h.cw k c))
  z2 ρ := (iblk2_at (VW (VA m)) d t ρ).trans (v4_at h _)
  w2 k := (iblk3_at (VW (VA m)) d t k).trans (v7_at h k)

theorem row_pt (r : Fin 32768) : rowOf ⟨(ptOf r).val, lt16 _⟩ ⟨r.val % 2048, Nat.mod_lt _ (by decide)⟩ = r := by
  apply Fin.ext; show 2048 * (r.val / 2048) + r.val % 2048 = r.val; omega

theorem G4_at (h : Args m d z w) (r : Fin 32768) (k : Fin 1024) :
    (G4 (VW (VA m)) d : S32768x1024.Idx → EReal) (ix2 r k) = if k = nr z w r then (1 : EReal) else (0 : EReal) := by
  have hl : loc4Of (ix2 r k) = ix2 (⟨r.val % 2048, Nat.mod_lt _ (by decide)⟩ : Fin 2048) k := by
    funext a; apply Fin.ext
    match a with
    | ⟨0, _⟩ => rfl
    | ⟨1, _⟩ => show k.val % 1024 = k.val; omega
  have e := pay9_at (holds h (ptOf r)) ⟨r.val % 2048, Nat.mod_lt _ (by decide)⟩ k
  rw [row_pt r] at e
  refine Eq.trans ?_ e
  unfold G4
  rw [hl]
  rfl

theorem G5_at (h : Args m d z w) (r : Fin 32768) :
    (G5 (VW (VA m)) d : S32768x1.Idx → BitVec 32) (ix2 r 0) = BitVec.ofNat 32 (nr z w r).val := by
  have hl : loc5Of (ix2 r 0) = ix2 (⟨r.val % 2048, Nat.mod_lt _ (by decide)⟩ : Fin 2048) 0 := by
    funext a; apply Fin.ext
    match a with
    | ⟨0, _⟩ => rfl
    | ⟨1, _⟩ => rfl
  have e := pay10_at (holds h (ptOf r)) ⟨r.val % 2048, Nat.mod_lt _ (by decide)⟩
  rw [row_pt r] at e
  refine Eq.trans ?_ e
  unfold G5
  rw [hl]
  rfl

/-- The count of the rows of block `t` nearest to code word `k`, -/
def cntB (z : Fin 32 → Fin 64 → Fin 32 → Fin 32 → ℝ) (w : Fin 1024 → Fin 64 → ℝ) (k : Fin 1024) (t : ℕ) : EReal :=
  if ht : t < 16 then ∑ ρ : Fin 2048, if k = nr z w (rowOf ⟨t, ht⟩ ρ) then (1 : EReal) else 0 else 0
/-- and the sum of their least distances. -/
def sumB (z : Fin 32 → Fin 64 → Fin 32 → Fin 32 → ℝ) (w : Fin 1024 → Fin 64 → ℝ) (t : ℕ) : EReal :=
  if ht : t < 16 then ∑ ρ : Fin 2048, ((dist (rowX z (rowOf ⟨t, ht⟩ ρ)) w (nr z w (rowOf ⟨t, ht⟩ ρ)) : ℝ) : EReal) else 0

theorem pay3_at (a b : Vec Ideal S1x1024 .f32) (k : Fin 1024) : k0_pay3 (F := Ideal) a b (ix2 0 k) = (b (ix2 0 k) + a (ix2 0 k) : EReal) := by
  pointwise [k0_pay3]

theorem cnt'_at (x0 : Vec Ideal S2048x64 .f32) (x1 : Vec Ideal S1024x64 .f32) (x2 : Vec Ideal S2048x1 .f32) (x3 : Vec Ideal S1x1024 .f32)
    (a : Vec Ideal S1x1024 .f32) (k : Fin 1024) (u v : EReal) (ha : a (ix2 0 k) = u) (h : k0_pay12 x0 x1 x2 x3 (ix2 0 k) = v) :
    cnt' x0 x1 x2 x3 a (ix2 0 k) = u + v := by
  unfold cnt'
  generalize k0_pay12 x0 x1 x2 x3 = A at h
  rw [pay3_at, ha, h]
theorem sum'_at (x0 : Vec Ideal S2048x64 .f32) (x1 : Vec Ideal S1024x64 .f32) (x2 : Vec Ideal S2048x1 .f32) (x3 : Vec Ideal S1x1024 .f32)
    (a : Vec Ideal S1x1 .f32) (u v : EReal) (ha : a o1 = u) (h : k0_pay11 x0 x1 x2 x3 = v) :
    sum' x0 x1 x2 x3 a o1 = u + v := by
  unfold sum'
  generalize k0_pay11 x0 x1 x2 x3 = A at h
  subst h; subst ha
  rfl
theorem cnt0_at (k : Fin 1024) : (cnt0 (F := Ideal)) (ix2 0 k) = 0 := pay1_at k
theorem sum0_at : (sum0 (F := Ideal)) o1 = 0 := Ideal.ofBits_zero_f32

theorem p12 (h : Args m d z w) (n : ℕ) (hn : n < cfg0.N) (k : Fin 1024) : k0_pay12 (F := Ideal) (iblk (VW (VA m)) d 0 ⟨n, hn⟩) (iblk (VW (VA m)) d 1 ⟨n, hn⟩)
      (iblk (VW (VA m)) d 2 ⟨n, hn⟩) (iblk (VW (VA m)) d 3 ⟨n, hn⟩) (ix2 0 k) = cntB z w k n := by
  unfold cntB; rw [dif_pos (lt16 ⟨n, hn⟩)]; exact pay12_at (holds h ⟨n, hn⟩) k
theorem p11 (h : Args m d z w) (n : ℕ) (hn : n < cfg0.N) : k0_pay11 (F := Ideal) (iblk (VW (VA m)) d 0 ⟨n, hn⟩) (iblk (VW (VA m)) d 1 ⟨n, hn⟩)
      (iblk (VW (VA m)) d 2 ⟨n, hn⟩) (iblk (VW (VA m)) d 3 ⟨n, hn⟩) = sumB z w n := by
  unfold sumB; rw [dif_pos (lt16 ⟨n, hn⟩), ← coe_sum]; exact pay11_at (holds h ⟨n, hn⟩)

theorem st_zero1 (V : (c : Dev nD) → (b : Ref sig .tc) → Buf (Elt Ideal) ((c : Thread nD τ).loc b)) (c : Dev nD) (hn : 0 < cfg0.N) :
    st V c 0 hn = (cnt' (iblk V c 0 ⟨0, hn⟩) (iblk V c 1 ⟨0, hn⟩) (iblk V c 2 ⟨0, hn⟩) (iblk V c 3 ⟨0, hn⟩) cnt0,
      sum' (iblk V c 0 ⟨0, hn⟩) (iblk V c 1 ⟨0, hn⟩) (iblk V c 2 ⟨0, hn⟩) (iblk V c 3 ⟨0, hn⟩) sum0) := st_zero V c ⟨0, hn⟩ rfl
theorem st_succ1 (V : (c : Dev nD) → (b : Ref sig .tc) → Buf (Elt Ideal) ((c : Thread nD τ).loc b)) (c : Dev nD) (n : ℕ) (hn : n + 1 < cfg0.N) :
    st V c (n + 1) hn = (cnt' (iblk V c 0 ⟨n + 1, hn⟩) (iblk V c 1 ⟨n + 1, hn⟩) (iblk V c 2 ⟨n + 1, hn⟩) (iblk V c 3 ⟨n + 1, hn⟩) (st V c n (Nat.lt_of_succ_lt hn)).1,
      sum' (iblk V c 0 ⟨n + 1, hn⟩) (iblk V c 1 ⟨n + 1, hn⟩) (iblk V c 2 ⟨n + 1, hn⟩) (iblk V c 3 ⟨n + 1, hn⟩) (st V c n (Nat.lt_of_succ_lt hn)).2) :=
  st_pos V c ⟨n + 1, hn⟩ (Nat.succ_ne_zero n)

theorem st_at (h : Args m d z w) (n : ℕ) (hn : n < cfg0.N) :
    (∀ k, ((st (VW (VA m)) d n hn).1 : S1x1024.Idx → EReal) (ix2 0 k) = ∑ t ∈ Finset.range (n + 1), cntB z w k t)
      ∧ ((st (VW (VA m)) d n hn).2 : S1x1.Idx → EReal) o1 = ∑ t ∈ Finset.range (n + 1), sumB z w t := by
  induction n with
  | zero =>
    rw [st_zero1]
    refine ⟨fun k => ?_, ?_⟩
    · rw [Finset.sum_range_one]
      exact (cnt'_at _ _ _ _ _ k _ _ (cnt0_at k) (p12 h 0 hn k)).trans (zero_add _)
    · rw [Finset.sum_range_one]
      exact (sum'_at _ _ _ _ _ _ _ sum0_at (p11 h 0 hn)).trans (zero_add _)
  | succ n ih =>
    obtain ⟨i1, i2⟩ := ih (Nat.lt_of_succ_lt hn)
    rw [st_succ1]
    refine ⟨fun k => ?_, ?_⟩
    · rw [Finset.sum_range_succ]
      exact cnt'_at _ _ _ _ _ k _ _ (i1 k) (p12 h (n + 1) hn k)
    · rw [Finset.sum_range_succ]
      exact sum'_at _ _ _ _ _ _ _ i2 (p11 h (n + 1) hn)

theorem cnt_eq (z : Fin 32 → Fin 64 → Fin 32 → Fin 32 → ℝ) (w : Fin 1024 → Fin 64 → ℝ) (k : Fin 1024) :
    ∑ t ∈ Finset.range 16, cntB z w k t = cnt z w k := by
  unfold cnt
  rw [Finset.sum_range, sum_rows]
  exact Finset.sum_congr rfl fun t _ => by unfold cntB; rw [dif_pos t.isLt]
theorem tot_eq (z : Fin 32 → Fin 64 → Fin 32 → Fin 32 → ℝ) (w : Fin 1024 → Fin 64 → ℝ) :
    ∑ t ∈ Finset.range 16, sumB z w t = ((tot z w : ℝ) : EReal) := by
  unfold tot
  rw [coe_sum, Finset.sum_range, sum_rows]
  exact Finset.sum_congr rfl fun t _ => by unfold sumB; rw [dif_pos t.isLt]

theorem G6_at (h : Args m d z w) (j : S1x1.Idx) :
    (G6 (VW (VA m)) d : S1x1.Idx → EReal) j = ((1.25 * (tot z w / 2097152) : ℝ) : EReal) := by
  have e := (st_at h 15 tLast.isLt).2.trans (tot_eq z w)
  unfold G6
  refine (pay4_at _ j).trans ?_
  rw [e, lit_n, div_coe _ _ (by norm_num), lit_five, ← EReal.coe_mul]

theorem G7_at (h : Args m d z w) (j : S1x1.Idx) : (G7 (VW (VA m)) d : S1x1.Idx → EReal) j = perp (cnt z w) := by
  have e := fun k => ((st_at h 15 tLast.isLt).1 k).trans (cnt_eq z w k)
  unfold G7
  refine (pay5_at _ j).trans ?_
  simp only [e]
  unfold perp
  rw [zero_sub]

end Cert.Proof.Val

end
-- ==== Proof.KRes.lean ====
/-
  The kernel's four results over the extended reals at arguments that hold reals.
-/
module

public import proofs.«01_k».proof.Proof.KVal

@[expose] public section

set_option maxRecDepth 16384

noncomputable section

namespace Cert.Proof.Val

open Cert.KernelIdeal Cert.KernelIdeal.Gen Cert.Proof.Tile Cert.Proof.Tc Cert.Proof.Main
open Idealize.ShloMosaic Idealize.ShloMosaic.TcCoe Idealize.ShloMosaic.Tactic

variable {m : (ℓ : Loc nD τ sig) → Buf (Elt Ideal) ℓ} {d : Dev nD}
variable {z : Fin 32 → Fin 64 → Fin 32 → Fin 32 → ℝ} {w : Fin 1024 → Fin 64 → ℝ}

theorem WA_4 (m : (ℓ : Loc nD τ sig) → Buf (Elt Ideal) ℓ) (d : Dev nD) : WA (VA m) d (Proc.devRef .tc main_v8_0) = G4 (VW (VA m)) d :=
  (Pipeline.afterRegion_arr (pdats (VA m) 0 d) (VA m d) winFacts0.arr_inj 4).trans (final4 (VW (VA m)) d)
theorem WA_6 (m : (ℓ : Loc nD τ sig) → Buf (Elt Ideal) ℓ) (d : Dev nD) : WA (VA m) d (Proc.devRef .tc main_v8_2) = G6 (VW (VA m)) d :=
  (Pipeline.afterRegion_arr (pdats (VA m) 0 d) (VA m d) winFacts0.arr_inj 6).trans (final6 (VW (VA m)) d)
theorem WA_7 (m : (ℓ : Loc nD τ sig) → Buf (Elt Ideal) ℓ) (d : Dev nD) : WA (VA m) d (Proc.devRef .tc main_v8_3) = G7 (VW (VA m)) d :=
  (Pipeline.afterRegion_arr (pdats (VA m) 0 d) (VA m d) winFacts0.arr_inj 7).trans (final7 (VW (VA m)) d)

theorem res_enc (h : Args m d z w) (r : Fin 32768) (k : Fin 1024) :
    (VZ m d (Proc.devRef .tc main_v8_0) : S32768x1024.Idx → EReal) (ix2 r k) = if k = nr z w r then (1 : EReal) else (0 : EReal) := by
  refine Eq.trans (congrFun ?_ _) (G4_at h r k)
  unfold VZ opsC
  after_results
  rw [VC_of_ne _ _ _ (by decide)]
  unfold VB opsB
  after_results
  exact WA_4 m d

theorem res_loss (h : Args m d z w) (j : S_.Idx) :
    (VZ m d (Proc.devRef .tc main_v18) : S_.Idx → EReal) j = ((1.25 * (tot z w / 2097152) : ℝ) : EReal) := by
  have e := G6_at h
  rw [← WA_6] at e
  unfold VZ opsC
  after_results
  rw [VC_of_ne _ _ _ (by decide)]
  unfold VB opsB
  after_results
  exact e _

theorem res_perp (h : Args m d z w) (j : S_.Idx) :
    (VZ m d (Proc.devRef .tc main_v19) : S_.Idx → EReal) j = perp (cnt z w) := by
  have e := G7_at h
  rw [← WA_7] at e
  unfold VZ opsC
  after_results
  rw [VC_of_ne _ _ _ (by decide)]
  unfold VB opsB
  after_results
  exact e _

/-- The word of row `r`. -/
theorem word_at (h : Args m d z w) (r : Fin 32768) :
    (fiM m d : S1x32768.Idx → BitVec 32) (ix2 0 r) = BitVec.ofNat 32 (nr z w r).val := by
  have e := G5_at h r
  rw [fiM_eq, WA_5]
  generalize G5 (VW (VA m)) d = A at e
  pointwise
  exact e

/-- The table's rows of code words. -/
theorem table_at (h : Args m d z w) (k : Fin 1024) (c : Fin 64) :
    (ftM m d : S1032x128.Idx → EReal) (ix2 ⟨k.val, by omega⟩ ⟨c.val, by omega⟩) = ((w k c : ℝ) : EReal) := by
  have hw : ∀ k c, (WA (VA m) d (Proc.devRef .tc main_arg1) : S1024x64.Idx → EReal) (ix2 k c) = ((w k c : ℝ) : EReal) := fun k c =>
    (congrFun (WA_arg1 m d) _).trans (h.cw k c)
  unfold ftM VB opsB
  after_results
  generalize WA (VA m) d (Proc.devRef .tc main_arg1) = A at hw
  pointwise
  exact hw k c

theorem rows_at (h : Args m d z w) (r : Fin 32768) (c : Fin 64) :
    (gD (ftM m) (fiM m) d : S32768x128.Idx → EReal) (ix2 r ⟨c.val, by omega⟩) = ((w (nr z w r) c : ℝ) : EReal) := by
  refine Eq.trans ?_ (table_at h (nr z w r) c)
  have hi := word_at h r
  rw [ix2_eq_valueIdx] at hi
  show (ftM m d : S1032x128.Idx → EReal) (ValueIdx.ix2 (n0 := 1032) (n1 := 128) (rowOfWord ((fiM m d : S1x32768.Idx → BitVec 32) (ValueIdx.ix2 (n0 := 1) (n1 := 32768) 0 r))) ⟨c.val, by omega⟩) = _
  rw [hi, ← ix2_eq_valueIdx]
  congr 2
  apply Fin.ext
  have hn := (nr z w r).isLt
  rw [rowOfWord_val (by rw [BitVec.toNat_ofNat]; omega), BitVec.toNat_ofNat]
  show _ = (nr z w r).val
  omega

theorem res_q (h : Args m d z w) (b : Fin 32) (c : Fin 64) (i j : Fin 32) :
    (VZ m d (Proc.devRef .tc main_v17) : S32x64x32x32.Idx → EReal) (ix4 b c i j)
      = ((w (nr z w ⟨1024 * b.val + 32 * i.val + j.val, by omega⟩) c : ℝ) : EReal) := by
  have hr := rows_at h ⟨1024 * b.val + 32 * i.val + j.val, by omega⟩ c
  unfold VZ opsC
  after_results
  rw [VC_o]
  generalize gD (ftM m) (fiM m) d = A at hr
  pointwise
  rw [← hr]
  congr 2
  apply Fin.ext
  show b.val * 1024 + i.val * 32 + j.val = 1024 * b.val + 32 * i.val + j.val
  omega

end Cert.Proof.Val

end
-- ==== Proof.RVal.lean ====
/-
  The reference's results over the extended reals at arguments that hold reals, each stage read at an index.
-/
module

public import proofs.«01_k».proof.Proof.Math
public import proofs.«01_k».proof.Proof.Gen.ReferenceIdeal
public import Idealize.ShloMosaic.PureOps.Reduce
public import Idealize.ShloMosaic.Lib.Pointwise
public import Idealize.ShloMosaic.Lib.IdealHost
public import Idealize.ShloMosaic.Lib.ValueIdx

@[expose] public section

set_option maxRecDepth 16384

noncomputable section

namespace Cert.Proof.Val

open Cert.ReferenceIdeal Cert.ReferenceIdeal.Gen
open Idealize.ShloMosaic

/-! ## The stages -/

/-- The flattened images. -/
def rX (a0 : S32x64x32x32.Idx → Ideal .f32) : FVec Ideal S32768x64 .f32 :=
  shapeCast S32768x64 (transpose S32x32x32x64 [0, 2, 3, 1] a0 transposes_S32x64x32x32_S32x32x32x64_0_2_3_1) shapeCasts_S32x32x32x64_S32768x64

/-- The squared distances. -/
def rD (x : FVec Ideal S32768x64 .f32) (a1 : FVec Ideal S1024x64 .f32) : FVec Ideal S32768x1024 .f32 :=
  addf (subf (broadcastInDim S32768x1024 ![0, 1] bcast_S32768x1_S32768x1024_0_1
      (broadcastInDim S32768x1 ![0] bcast_S32768_S32768x1_0
        (Host.reduceAdd (mulf x x) (constant S_ .f32 0x00000000#32) reducesTo_S32768x64_S32768_d1 h_S_)))
      (mulf (broadcastInDim S32768x1024 ![] bcast_S_S32768x1024 (constant S_ .f32 0x40000000#32))
        (Host.dotGeneral dot_S32768x64_S64x1024_S32768x1024_1_0_0_1_n_n none x
          (transpose S64x1024 [1, 0] a1 transposes_S1024x64_S64x1024_1_0))))
    (broadcastInDim S32768x1024 ![0, 1] bcast_S1x1024_S32768x1024_0_1
      (broadcastInDim S1x1024 ![1] bcast_S1024_S1x1024_1
        (Host.reduceAdd (mulf a1 a1) (constant S_ .f32 0x00000000#32) reducesTo_S1024x64_S1024_d1 h_S_)))

/-- The second components of a family of pairs. -/
def sndAt {ι α β : Type} (f : ι → α × β) : ι → β := fun j => (f j).2

theorem sndAt_eq {ι α β : Type} (f : ι → α × β) : (fun j => (f j).2) = sndAt f := rfl

/-- The nearest code words' numbers. -/
def rI (D : FVec Ideal S32768x1024 .f32) : IVec S32768 32 :=
  sndAt (Host.argReduce reducer_argmin_f32_i32 D (iotaInDim S32768x1024 32 1) (constant S_ .f32 0x7F800000#32) (constantI S_ 32 0#32)
    reducesTo_S32768x1024_S32768_d1 h_S_)

/-- Their one-hot rows. -/
def rE (i : IVec S32768 32) : FVec Ideal S32768x1024 .f32 :=
  uitofp .f32 (cmpi .eq (broadcastInDim S32768x1024 ![0, 1] bcast_S32768x1_S32768x1024_0_1 (broadcastInDim S32768x1 ![0] bcast_S32768_S32768x1_0 i))
    (broadcastInDim S32768x1024 ![0, 1] bcast_S1x1024_S32768x1024_0_1 (iotaInDim S1x1024 32 1)))

/-- Their numbers as the row lookup takes them, a negative one counted from the end, -/
def rW (i : IVec S32768 32) : IVec S32768x1 32 :=
  broadcastInDim S32768x1 ![0] bcast_S32768_S32768x1_0
    (select (cmpi .slt i (broadcastInDim S32768 ![] bcast_S_S32768 (constantI S_ 32 0#32)))
      (addi i (broadcastInDim S32768 ![] bcast_S_S32768 (constantI S_ 32 1024#32))) i)

/-- which of them name a row, -/
def rM (v : IVec S32768x1 32) : IVec S32768 1 :=
  Host.reduce IntOp.andi
    (andi (cmpi .sge v (broadcastInDim S32768x1 ![] bcast_S_S32768x1 (constantI S_ 32 0#32)))
      (cmpi .sle v (broadcastInDim S32768x1 ![0, 1] bcast_S1x1_S32768x1_0_1 (broadcastInDim S1x1 ![1] bcast_S1_S1x1_1 (constantI S1 32 1023#32)))))
    (constantI S_ 1 1#1) reducesTo_S32768x1_S32768_d1 h_S_

/-- and the rows. -/
def rT (a1 : FVec Ideal S1024x64 .f32) (v : IVec S32768x1 32) : FVec Ideal S32768x64 .f32 :=
  select (broadcastInDim S32768x64 ![0] bcast_S32768_S32768x64_0 (rM v))
    (Host.gather gather_S1024x64_S32768x1_S32768x64_1_0_n_n_0_1_164 a1 v)
    (broadcastInDim S32768x64 ![] bcast_S_S32768x64 (constant S_ .f32 0x7FC00000#32))

/-- The mean squared error. -/
def rS (x t : FVec Ideal S32768x64 .f32) : FVec Ideal S_ .f32 :=
  Host.divf (Host.reduceAdd (mulf (subf t x) (subf t x)) (constant S_ .f32 0x00000000#32) reducesTo_S32768x64_S_d0_1 h_S_) (constant S_ .f32 0x4A000000#32)

/-- The loss. -/
def rL (x t : FVec Ideal S32768x64 .f32) : FVec Ideal S_ .f32 := addf (rS x t) (mulf (constant S_ .f32 0x3E800000#32) (rS x t))

/-- The shares of the code words. -/
def rN (e : FVec Ideal S32768x1024 .f32) : FVec Ideal S1024 .f32 :=
  Host.divf (Host.reduceAdd e (constant S_ .f32 0x00000000#32) reducesTo_S32768x1024_S1024_d0 h_S_) (broadcastInDim S1024 ![] bcast_S_S1024 (constant S_ .f32 0x47000000#32))

/-- The perplexity. -/
def rP (p : FVec Ideal S1024 .f32) : FVec Ideal S_ .f32 :=
  Host.exp (Host.negf (Host.reduceAdd (mulf p (Host.log (addf p (broadcastInDim S1024 ![] bcast_S_S1024 (constant S_ .f32 0x2EDBE6FF#32)))))
    (constant S_ .f32 0x00000000#32) reducesTo_S1024_S_d0 h_S_))

/-- The images with each row replaced by its code word, as the reference writes it. -/
def rQ (a0 : FVec Ideal S32x64x32x32 .f32) (t : FVec Ideal S32768x64 .f32) : FVec Ideal S32x64x32x32 .f32 :=
  addf a0 (subf (transpose S32x64x32x32 [0, 3, 1, 2] (shapeCast S32x32x32x64 t shapeCasts_S32768x64_S32x32x32x64) transposes_S32x32x32x64_S32x64x32x32_0_3_1_2) a0)

/-! ## The first least pair -/

/-- Pair `a` comes before pair `b`. -/
def before (a b : EReal × BitVec 32) : Prop := a.1 < b.1 ∨ (a.1 = b.1 ∧ a.2.toInt < b.2.toInt)

theorem before_trans {a b c : EReal × BitVec 32} (h : before a b) (h' : before b c) : before a c := by
  rcases h with h | ⟨h, g⟩ <;> rcases h' with h' | ⟨h', g'⟩
  · exact Or.inl (h.trans h')
  · exact Or.inl (h' ▸ h)
  · exact Or.inl (h ▸ h')
  · exact Or.inr ⟨h.trans h', g.trans g'⟩

theorem before_of_not {a b c : EReal × BitVec 32} (h : ¬ before a b) (h' : before a c) : before b c := by
  unfold before at *
  push Not at h
  rcases h' with h' | ⟨h', g'⟩
  · exact Or.inl (lt_of_le_of_lt h.1 h')
  · rcases lt_or_eq_of_le h.1 with g | g
    · exact Or.inl (h' ▸ g)
    · exact Or.inr ⟨g.trans h', lt_of_le_of_lt (h.2 g.symm) g'⟩

open Classical in
theorem reducer_eq (a b : EReal × BitVec 32) : reducer_argmin_f32_i32 (F := Ideal) a b = if before a b then a else b := by
  obtain ⟨a1, a2⟩ := a
  obtain ⟨b1, b2⟩ := b
  unfold reducer_argmin_f32_i32 before
  have hlt : FloatOps.cmpf (F := Ideal) (φ := .f32) .olt a1 b1 = BitVec.ofBool (decide (a1 < b1)) := by
    rw [Ideal.cmpf_def]; simp [Ideal.cmp]
  have hne : FloatOps.cmpf (F := Ideal) (φ := .f32) .une a1 a1 = 0#1 := by
    rw [Ideal.cmpf_def]; simp [Ideal.cmp]
  have heq : FloatOps.cmpf (F := Ideal) (φ := .f32) .oeq a1 b1 = BitVec.ofBool (decide (a1 = b1)) := by
    rw [Ideal.cmpf_def]; simp [Ideal.cmp]
  have hs : IntOp.cmpi .slt a2 b2 = BitVec.ofBool (decide (a2.toInt < b2.toInt)) := by
    simp [IntOp.cmpi, BitVec.slt]
  simp only [hlt, hne, heq, hs]
  by_cases h1 : a1 < b1
  · simp [h1, h1.ne, IntOp.ori, IntOp.andi, Scalar.select]
  · by_cases h2 : a1 = b1
    · by_cases h3 : a2.toInt < b2.toInt
      · simp [h1, h2, h3, IntOp.ori, IntOp.andi, Scalar.select]
      · simp [h1, h2, h3, IntOp.ori, IntOp.andi, Scalar.select]
    · simp [h1, h2, IntOp.ori, IntOp.andi, Scalar.select]

/-- The fold of the reducer is one of the pairs, and no pair comes before it. -/
theorem foldl_first (L : List (EReal × BitVec 32)) (p : EReal × BitVec 32) :
    (L.foldl (reducer_argmin_f32_i32 (F := Ideal)) p = p ∨ L.foldl (reducer_argmin_f32_i32 (F := Ideal)) p ∈ L)
      ∧ ∀ q, q = p ∨ q ∈ L → ¬ before q (L.foldl (reducer_argmin_f32_i32 (F := Ideal)) p) := by
  induction L generalizing p with
  | nil =>
    refine ⟨Or.inl rfl, fun q hq h => ?_⟩
    rcases hq with rfl | hq
    · rcases h with h | ⟨-, h⟩ <;> exact lt_irrefl _ h
    · exact absurd hq List.not_mem_nil
  | cons b L ih =>
    obtain ⟨h1, h2⟩ := ih (reducer_argmin_f32_i32 (F := Ideal) p b)
    rw [List.foldl_cons]
    generalize hR : L.foldl (reducer_argmin_f32_i32 (F := Ideal)) (reducer_argmin_f32_i32 (F := Ideal) p b) = R at h1 h2
    rw [reducer_eq] at h1 h2
    by_cases hb : before p b
    · rw [if_pos hb] at h1 h2
      refine ⟨h1.imp id (List.mem_cons_of_mem _), fun q hq h => ?_⟩
      rcases hq with rfl | hq
      · exact h2 _ (Or.inl rfl) h
      · rcases List.mem_cons.1 hq with rfl | hq
        · exact h2 p (Or.inl rfl) (before_trans hb h)
        · exact h2 q (Or.inr hq) h
    · rw [if_neg hb] at h1 h2
      refine ⟨Or.inr (h1.elim (fun e => e ▸ List.mem_cons_self) (List.mem_cons_of_mem _)), fun q hq h => ?_⟩
      rcases hq with rfl | hq
      · exact h2 b (Or.inl rfl) (before_of_not hb h)
      · rcases List.mem_cons.1 hq with rfl | hq
        · exact h2 _ (Or.inl rfl) h
        · exact h2 q (Or.inr hq) h

/-! ## The stages at an index -/

variable {a0 : S32x64x32x32.Idx → Ideal .f32} {a1 : FVec Ideal S1024x64 .f32}
variable {z : Fin 32 → Fin 64 → Fin 32 → Fin 32 → ℝ} {w : Fin 1024 → Fin 64 → ℝ}

theorem rX_at (hz : ∀ b c i j, a0 (ix4 b c i j) = ((z b c i j : ℝ) : EReal)) (r : Fin 32768) (c : Fin 64) :
    rX a0 (ix2 r c) = ((rowX z r c : ℝ) : EReal) := by
  pointwise [rX]
  rw [hz]
  rfl

theorem rD_at {x : FVec Ideal S32768x64 .f32} (hx : ∀ r c, x (ix2 r c) = ((rowX z r c : ℝ) : EReal))
    (hw : ∀ k c, a1 (ix2 k c) = ((w k c : ℝ) : EReal)) (r : Fin 32768) (k : Fin 1024) :
    rD x a1 (ix2 r k) = ((dist (rowX z r) w k : ℝ) : EReal) := by
  pointwise [rD]
  simp only [hx, hw, ← EReal.coe_mul, lit_two]
  rw [← coe_sum, ← coe_sum, ← coe_sum, ← EReal.coe_mul, ← EReal.coe_sub, ← EReal.coe_add, dist_two]

theorem toInt_k (k : Fin 1024) : (BitVec.ofNat 32 k.val).toInt = k.val := by
  rw [BitVec.toInt_eq_toNat_of_lt (by rw [BitVec.toNat_ofNat]; omega), BitVec.toNat_ofNat]; omega

theorem fiber_mem {s s' : Shape} {d : List (Fin s.rank)} {α β : Type} (x : s.Idx → α) (y : s.Idx → β)
    (h : s.ReducesTo d s') (j : s'.Idx) {ι : Type} (row : ι → s.Idx) (h1 : ∀ k, h.drop (row k) = j)
    (h2 : ∀ i, h.drop i = j → ∃ k, i = row k) (q : α × β) :
    q ∈ Host.argReduceFiber x y h j ↔ ∃ k, q = (x (row k), y (row k)) := by
  unfold Host.argReduceFiber
  rw [List.mem_map]
  constructor
  · rintro ⟨n, hn, rfl⟩
    obtain ⟨k, e⟩ := h2 _ (of_decide_eq_true (List.mem_filter.1 hn).2)
    exact ⟨k, by rw [e]⟩
  · rintro ⟨k, rfl⟩
    refine ⟨s.rowMajor (row k), List.mem_filter.2 ⟨List.mem_finRange _, ?_⟩, ?_⟩
    · rw [Equiv.symm_apply_apply]
      exact decide_eq_true (h1 k)
    · rw [Equiv.symm_apply_apply]

theorem row_drop (r : Fin 32768) (k : Fin 1024) :
    reducesTo_S32768x1024_S32768_d1.drop (ix2 r k) = ix1 r := by
  refine (eq_ix1 _).trans (congrArg ix1 (Fin.ext ?_))
  exact Shape.ReducesTo.drop_apply_val_of_eq reducesTo_S32768x1024_S32768_d1 _ 0 0

theorem drop_row (r : Fin 32768) (i : S32768x1024.Idx) (h : reducesTo_S32768x1024_S32768_d1.drop i = ix1 r) :
    ∃ k : Fin 1024, i = ix2 r k := by
  have e0 := congrArg (fun j : S32768.Idx => (j 0).val) h
  have h0 : i 0 = r := Fin.ext ((Shape.ReducesTo.drop_apply_val_of_eq reducesTo_S32768x1024_S32768_d1 i 0 0).symm.trans e0)
  exact ⟨i 1, by rw [← h0]; exact eq_ix2 i⟩

theorem first_near (x : Fin 64 → ℝ) (w : Fin 1024 → Fin 64 → ℝ) (L : List (EReal × BitVec 32))
    (hmem : ∀ q, q ∈ L ↔ ∃ k : Fin 1024, q = (((dist x w k : ℝ) : EReal), BitVec.ofNat 32 k.val))
    (q : EReal × BitVec 32) (h1 : q = (⊤, 0#32) ∨ q ∈ L)
    (h2 : ∀ p, p ∈ L → ¬ before p q) : q.2 = BitVec.ofNat 32 (near x w).val := by
  have hn := h2 _ ((hmem _).2 ⟨near x w, rfl⟩)
  rcases h1 with e | e
  · exfalso
    rw [e] at hn
    exact hn (Or.inl (EReal.coe_lt_top _))
  · obtain ⟨k, rfl⟩ := (hmem _).1 e
    unfold before at hn
    push Not at hn
    obtain ⟨g1, g2⟩ := hn
    have ed : dist x w k = dist x w (near x w) :=
      le_antisymm (EReal.coe_le_coe_iff.1 g1) (near_le _ _ _)
    have g3 := g2 (by rw [ed])
    have g4 : (near x w).val ≤ k.val := near_first _ _ _ ed
    change (BitVec.ofNat 32 k.val).toInt ≤ (BitVec.ofNat 32 (near x w).val).toInt at g3
    rw [toInt_k, toInt_k] at g3
    have hk : k = near x w := Fin.ext (by omega)
    rw [hk]

theorem arg_near {s s' u : Shape} {d : List (Fin s.rank)} (D : FVec Ideal s .f32) (y : s.Idx → BitVec 32)
    (p : u.Idx → Ideal .f32) (q : u.Idx → BitVec 32) (h : s.ReducesTo d s') (hu : 0 < u.numel) (j : s'.Idx)
    (row : Fin 1024 → s.Idx) (h1 : ∀ k, h.drop (row k) = j) (h2 : ∀ i, h.drop i = j → ∃ k, i = row k)
    (x : Fin 64 → ℝ) (w : Fin 1024 → Fin 64 → ℝ) (hD : ∀ k, D (row k) = ((dist x w k : ℝ) : EReal))
    (hy : ∀ k, y (row k) = BitVec.ofNat 32 k.val) (hp : p (Shape.Idx.first hu) = (⊤ : EReal)) (hq : q (Shape.Idx.first hu) = 0#32) :
    sndAt (Host.argReduce (reducer_argmin_f32_i32 (F := Ideal)) D y p q h hu) j = BitVec.ofNat 32 (near x w).val := by
  have hmem := fiber_mem D y h j row h1 h2
  simp only [hD, hy] at hmem
  unfold sndAt
  rw [Ideal.argReduce_eq_reduce2, Host.reduce2_eq_foldl_fiber, hp, hq]
  generalize Host.argReduceFiber D y h j = L at hmem
  obtain ⟨g1, g2⟩ := foldl_first L ((⊤ : EReal), (0#32 : BitVec 32))
  exact first_near x w L hmem _ g1 (fun p hp => g2 p (Or.inr hp))

theorem iota_row (r : Fin 32768) (k : Fin 1024) : (iotaInDim S32768x1024 32 1) (ix2 r k) = BitVec.ofNat 32 k.val := rfl

theorem rI_at {D : FVec Ideal S32768x1024 .f32} (r : Fin 32768) (hD : ∀ k, D (ix2 r k) = ((dist (rowX z r) w k : ℝ) : EReal)) :
    rI D (ix1 r) = BitVec.ofNat 32 (nr z w r).val :=
  arg_near D (iotaInDim S32768x1024 32 1) (constant S_ .f32 0x7F800000#32) (constantI S_ 32 0#32)
    reducesTo_S32768x1024_S32768_d1 h_S_ (ix1 r) (fun k => ix2 r k) (row_drop r) (drop_row r) (rowX z r) w hD (iota_row r) lit_inf rfl

theorem rE_at {i : IVec S32768 32} (r : Fin 32768) (k n : Fin 1024) (hi : i (ix1 r) = BitVec.ofNat 32 n.val) :
    rE i (ix2 r k) = if k = n then (1 : EReal) else (0 : EReal) := by
  pointwise [rE]
  rw [hi]
  by_cases e : k = n
  · rw [if_pos e, ← e, show IntOp.cmpi .eq (BitVec.ofNat 32 k.val) (BitVec.ofNat 32 k.val) = 1#1 by simp [IntOp.cmpi]]
    show (((1#1).toNat : ℝ) : EReal) = 1
    simp
  · rw [if_neg e, show IntOp.cmpi .eq (BitVec.ofNat 32 n.val) (BitVec.ofNat 32 k.val) = 0#1 by
      have := fun h => e ((ofNat_eq_iff _ _).1 h).symm
      show BitVec.ofBool (BitVec.ofNat 32 n.val == BitVec.ofNat 32 k.val) = 0#1
      rw [beq_eq_false_iff_ne.2 this]; rfl]
    show (((0#1).toNat : ℝ) : EReal) = 0
    simp

theorem rW_at {i : IVec S32768 32} (r : Fin 32768) (n : Fin 1024) (hi : i (ix1 r) = BitVec.ofNat 32 n.val) :
    rW i (ix2 r 0) = BitVec.ofNat 32 n.val := by
  pointwise [rW]
  rw [hi]
  have h : ¬ (BitVec.ofNat 32 n.val).slt 0#32 := by
    rw [BitVec.slt_iff_toInt_lt, toInt_k]
    simp
  simp [Scalar.select, IntOp.cmpi, h]

theorem fold_one {ι : Type} [DecidableEq ι] (S : Finset ι) (f : ι → BitVec 1) (h : ∀ i ∈ S, f i = 1#1) :
    S.fold IntOp.andi 1#1 f = 1#1 := by
  induction S using Finset.induction_on with
  | empty => rfl
  | insert a T ha ih =>
    rw [Finset.fold_insert ha, h a (Finset.mem_insert_self a T), ih fun i hi => h i (Finset.mem_insert_of_mem hi)]
    rfl

theorem drop_col (r : Fin 32768) (i : S32768x1.Idx) (h : reducesTo_S32768x1_S32768_d1.drop i = ix1 r) : i = ix2 r 0 := by
  have e0 := congrArg (fun j : S32768.Idx => (j 0).val) h
  have h0 : i 0 = r := Fin.ext ((Shape.ReducesTo.drop_apply_val_of_eq reducesTo_S32768x1_S32768_d1 i 0 0).symm.trans e0)
  have h1 : i 1 = (0 : Fin 1) := Subsingleton.elim (α := Fin 1) _ _
  rw [← h0, ← h1]
  exact eq_ix2 i

theorem inside (n : Fin 1024) : IntOp.andi (IntOp.cmpi .sge (BitVec.ofNat 32 n.val) 0#32) (IntOp.cmpi .sle (BitVec.ofNat 32 n.val) 1023#32) = 1#1 := by
  have h1 : (0#32).sle (BitVec.ofNat 32 n.val) = true := by
    rw [BitVec.sle_iff_toInt_le, toInt_k]
    simp
  have h2 : (BitVec.ofNat 32 n.val).sle 1023#32 = true := by
    rw [BitVec.sle_iff_toInt_le, toInt_k, show (1023#32 : BitVec 32).toInt = 1023 by decide]
    omega
  simp [IntOp.cmpi, IntOp.andi, h1, h2]

theorem rM_at {v : IVec S32768x1 32} (r : Fin 32768) (n : Fin 1024) (hv : v (ix2 r 0) = BitVec.ofNat 32 n.val) :
    rM v (ix1 r) = 1#1 := by
  unfold rM
  rw [Host.reduce_eq_fold]
  refine fold_one _ _ fun i hi => ?_
  rw [drop_col r i (Finset.mem_filter.1 hi).2]
  show IntOp.andi (IntOp.cmpi .sge (v (ix2 r 0)) 0#32) (IntOp.cmpi .sle (v (ix2 r 0)) 1023#32) = 1#1
  rw [hv]
  exact inside n

/-- The dimension numbers of a take of whole rows. -/
abbrev rowDims (N C B : Nat) (wf : GatherDims.WF ⟨2, ![N, C]⟩ ⟨2, ![B, 1]⟩ ⟨2, ![B, C]⟩ [1] [0] [] [0] [] 1 ![1, C]) :
    GatherDims ⟨2, ![N, C]⟩ ⟨2, ![B, 1]⟩ ⟨2, ![B, C]⟩ where
  offsetDims := [1]
  collapsedSliceDims := [0]
  operandBatchingDims := []
  startIndicesBatchingDims := []
  startIndexMap := [0]
  indexVectorDim := 1
  sliceSizes := ![1, C]
  wf := wf

theorem rowDims_at {α : Type} {N C B : Nat} (hN : 0 < N)
    (wf : GatherDims.WF ⟨2, ![N, C]⟩ ⟨2, ![B, 1]⟩ ⟨2, ![B, C]⟩ [1] [0] [] [0] [] 1 ![1, C])
    (x : (⟨2, ![N, C]⟩ : Shape).Idx → α) (v : IVec ⟨2, ![B, 1]⟩ 32) (b : Fin B) (c : Fin C) :
    Host.gather (rowDims N C B wf) x v (ix2 b c) = x (ix2 ⟨min (v (ix2 b 0)).toInt.toNat (N - 1), by omega⟩ c) := by
  unfold Host.gather
  congr 1
  funext a
  refine Fin.ext ?_
  show (rowDims N C B wf).start (ix2 b c) v a + (rowDims N C B wf).batchCoord (ix2 b c) a
      + (rowDims N C B wf).offCoord (ix2 b c) a = _
  have h01 : a = 0 ∨ a = 1 := by
    match a with
    | ⟨0, _⟩ => exact Or.inl rfl
    | ⟨1, _⟩ => exact Or.inr rfl
  rw [GatherDims.batchCoord_eq_zero _ _ _ List.not_mem_nil]
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C B wf).startIndexMap from List.mem_singleton.mpr rfl)]
    have hsi : (rowDims N C B wf).siIdx (ix2 b c) ⟨List.idxOf (0 : Fin 2) (rowDims N C B wf).startIndexMap,
        List.idxOf_lt_length_iff.2 (List.mem_singleton.mpr rfl)⟩ = ix2 b 0 := by
      funext q; refine Fin.ext ?_
      match q with
      | ⟨0, _⟩ => rfl
      | ⟨1, _⟩ => rfl
    rw [hsi]
    rfl
  · unfold GatherDims.start
    rw [dif_neg (show (1 : Fin 2) ∉ ([0] : List (Fin 2)) from by decide)]
    simp only [Nat.zero_add, Nat.add_zero]
    unfold GatherDims.offCoord
    rw [dif_pos ((GatherDims.mem_sKept _ _).mpr ⟨show (1 : Fin 2) ∉ ([0] : List (Fin 2)) from by decide, List.not_mem_nil⟩)]
    rfl

theorem rG_at (v : IVec S32768x1 32) (r : Fin 32768) (c : Fin 64) (n : Fin 1024) (hv : v (ix2 r 0) = BitVec.ofNat 32 n.val) :
    Host.gather gather_S1024x64_S32768x1_S32768x64_1_0_n_n_0_1_164 a1 v (ix2 r c) = a1 (ix2 n c) := by
  refine (rowDims_at (by decide) _ a1 v r c).trans ?_
  congr 2
  apply Fin.ext
  show min (v (ix2 r 0)).toInt.toNat 1023 = n.val
  rw [hv, toInt_k]
  omega

theorem rT_at {v : IVec S32768x1 32} (r : Fin 32768) (c : Fin 64) (n : Fin 1024) (hv : v (ix2 r 0) = BitVec.ofNat 32 n.val)
    (hw : ∀ k c, a1 (ix2 k c) = ((w k c : ℝ) : EReal)) :
    rT a1 v (ix2 r c) = ((w n c : ℝ) : EReal) := by
  have hM := rM_at r n hv
  have hG := rG_at (a1 := a1) v r c n hv
  unfold rT
  generalize rM v = M at hM
  generalize Host.gather gather_S1024x64_S32768x1_S32768x64_1_0_n_n_0_1_164 a1 v = G at hG
  pointwise
  rw [hM, hG, hw]
  rfl

theorem rS_at {x t : FVec Ideal S32768x64 .f32} (hx : ∀ r c, x (ix2 r c) = ((rowX z r c : ℝ) : EReal))
    (ht : ∀ r c, t (ix2 r c) = ((w (nr z w r) c : ℝ) : EReal)) (j : S_.Idx) : rS x t j = ((tot z w / 2097152 : ℝ) : EReal) := by
  unfold rS
  pointwise
  have e : ∀ r, (∑ c, (t (ix2 r c) - x (ix2 r c)) * (t (ix2 r c) - x (ix2 r c))) = ((dist (rowX z r) w (nr z w r) : ℝ) : EReal) := by
    intro r
    simp only [hx, ht, ← EReal.coe_sub, ← EReal.coe_mul]
    rw [← coe_sum, dist_eq]
  simp only [e]
  rw [← coe_sum, lit_n, div_coe _ _ (by norm_num)]
  rfl

theorem rL_at {x t : FVec Ideal S32768x64 .f32} (hx : ∀ r c, x (ix2 r c) = ((rowX z r c : ℝ) : EReal))
    (ht : ∀ r c, t (ix2 r c) = ((w (nr z w r) c : ℝ) : EReal)) (j : S_.Idx) :
    rL x t j = ((1.25 * (tot z w / 2097152) : ℝ) : EReal) := by
  have e := rS_at hx ht j
  show rS x t j + Ideal.ofBits .f32 0x3E800000#32 * rS x t j = _
  rw [e, lit_quarter, ← EReal.coe_mul, ← EReal.coe_add]
  congr 1
  ring

theorem rP_at {e : FVec Ideal S32768x1024 .f32} (he : ∀ r k, e (ix2 r k) = if k = nr z w r then (1 : EReal) else (0 : EReal)) (j : S_.Idx) :
    rP (rN e) j = perp (cnt z w) := by
  have hN : ∀ k, rN e (ix1 k) = Ideal.div (cnt z w k) (Ideal.ofBits .f32 0x47000000#32) := by
    intro k
    unfold rN cnt
    pointwise
    simp only [he]
  generalize rN e = p at hN
  unfold rP
  pointwise
  simp only [hN]
  rfl

theorem rQ_at (hz : ∀ b c i j, a0 (ix4 b c i j) = ((z b c i j : ℝ) : EReal)) {t : FVec Ideal S32768x64 .f32}
    (ht : ∀ r c, t (ix2 r c) = ((w (nr z w r) c : ℝ) : EReal)) (b : Fin 32) (c : Fin 64) (i j : Fin 32) :
    rQ a0 t (ix4 b c i j) = ((w (nr z w ⟨1024 * b.val + 32 * i.val + j.val, by omega⟩) c : ℝ) : EReal) := by
  pointwise [rQ]
  rw [hz, ht, ← EReal.coe_sub, ← EReal.coe_add]
  have e : (⟨b.val * 1024 + i.val * 32 + j.val, by omega⟩ : Fin 32768) = ⟨1024 * b.val + 32 * i.val + j.val, by omega⟩ :=
    Fin.ext (by show b.val * 1024 + i.val * 32 + j.val = 1024 * b.val + 32 * i.val + j.val; omega)
  rw [e]
  congr 1
  ring

end Cert.Proof.Val

end
-- ==== Proof.RRun.lean ====
/-
  The reference's run over the extended reals: its results are the stages' terms.
-/
module

public import proofs.«01_k».proof.Proof.RVal
public import Idealize.ShloMosaic.Lib.Claim
public import Idealize.ShloMosaic.Lib.StableHlo.ReadAt
public import Idealize.ShloMosaic.Lib.Tactic.CleanTypes

@[expose] public section

set_option maxRecDepth 16384

noncomputable section

namespace Cert.Proof.Val

open Idealize.ShloMosaic Idealize.ShloMosaic.TcCoe Idealize.ShloMosaic.Tactic
open Idealize.SL.Sem
open Cert.ReferenceIdeal Cert.ReferenceIdeal.Gen

/-- The nearest code words' numbers, from the arguments, -/
abbrev rIdx (a0 : FVec Ideal S32x64x32x32 .f32) (a1 : FVec Ideal S1024x64 .f32) : IVec S32768 32 := rI (rD (rX a0) a1)

/-- and the code words. -/
abbrev rRows (a0 : FVec Ideal S32x64x32x32 .f32) (a1 : FVec Ideal S1024x64 .f32) : FVec Ideal S32768x64 .f32 := rT a1 (rW (rIdx a0 a1))

theorem ref_run (m : (ℓ : Loc nD τ sig) → Buf (Elt Ideal) ℓ) (g : Dev nD → PrngReg) :
   θ_run (defs (F := Ideal)) (onTc (τ := τ) (main (F := Ideal))) ⟨m, fun _ => 0, g⟩ (fun r => ∀ c : Dev nD,
          r.2.mem ((c.tc : Thread nD τ).loc main_v42) = rQ (m ((c.tc : Thread nD τ).loc main_arg0)) (rRows (m ((c.tc : Thread nD τ).loc main_arg0)) (m ((c.tc : Thread nD τ).loc main_arg1)))
          ∧ r.2.mem ((c.tc : Thread nD τ).loc main_v30) = rL (rX (m ((c.tc : Thread nD τ).loc main_arg0))) (rRows (m ((c.tc : Thread nD τ).loc main_arg0)) (m ((c.tc : Thread nD τ).loc main_arg1)))
          ∧ r.2.mem ((c.tc : Thread nD τ).loc main_v40) = rP (rN (rE (rIdx (m ((c.tc : Thread nD τ).loc main_arg0)) (m ((c.tc : Thread nD τ).loc main_arg1)))))
          ∧ r.2.mem ((c.tc : Thread nD τ).loc main_v17) = rE (rIdx (m ((c.tc : Thread nD τ).loc main_arg0)) (m ((c.tc : Thread nD τ).loc main_arg1)))
          ∧ r.2.mem ((c.tc : Thread nD τ).loc main_arg0) = m ((c.tc : Thread nD τ).loc main_arg0)
          ∧ r.2.mem ((c.tc : Thread nD τ).loc main_arg1) = m ((c.tc : Thread nD τ).loc main_arg1)) := by
  hlo_run
  all_goals rw [sndAt_eq]
  all_goals simp -implicitDefEqProofs only [StableHlo.TRef.toBuf, StableHlo.TRef.ofBuf, cast_cast, cast_eq]
  all_goals clean_types
  all_goals rfl

end Cert.Proof.Val

end
-- ==== Proof.Alg.lean ====
/-
  The value claim: at finite arguments the kernel's four results are the reference's over the extended reals.
-/
module

public import proofs.«01_k».proof.Proof.Frames
public import proofs.«01_k».proof.Proof.KRes
public import proofs.«01_k».proof.Proof.RRun

@[expose] public section

set_option maxRecDepth 16384

noncomputable section

namespace Cert.Proof.Val

open Idealize.ShloMosaic Idealize.ShloMosaic.TcCoe Idealize.ShloMosaic.Tactic
open Idealize.SL.Sem

/-! ## What the precondition says -/

theorem fold_and {ι : Type} [DecidableEq ι] (S : Finset ι) (f : ι → BitVec 1) (h : S.fold IntOp.andi 1#1 f = 1#1) :
    ∀ i ∈ S, f i = 1#1 := by
  have hb : ∀ a b : BitVec 1, IntOp.andi a b = 1#1 → a = 1#1 ∧ b = 1#1 := by decide
  induction S using Finset.induction_on with
  | empty => intro i hi; exact absurd hi (Finset.notMem_empty i)
  | insert a T ha ih =>
    rw [Finset.fold_insert ha] at h
    obtain ⟨h1, h2⟩ := hb _ _ h
    intro i hi
    rcases Finset.mem_insert.1 hi with rfl | hi
    · exact h1
    · exact ih h2 i hi

theorem real_of_lt (x : EReal) (h : FloatOps.cmpf (F := Ideal) (φ := .f32) .olt (FloatOps.absf (F := Ideal) (φ := .f32) x) (Ideal.ofBits .f32 0x7F800000#32) = 1#1) :
    x = ((x.toReal : ℝ) : EReal) := by
  rw [Ideal.cmpf_def, Ideal.absf_def, lit_inf] at h
  induction x using EReal.rec with
  | bot => exfalso; revert h; simp [Ideal.cmp]
  | top => exfalso; revert h; simp [Ideal.cmp]
  | coe r => rw [EReal.toReal_coe]

theorem all_real {s t u : Shape} {d : List (Fin s.rank)} (x : FVec Ideal s .f32) (b : FVec Ideal s .f32) (hb : ∀ i, b i = Ideal.ofBits .f32 0x7F800000#32)
    (p : u.Idx → BitVec 1) (h : s.ReducesTo d t) (hu : 0 < u.numel) (hp : p (Shape.Idx.first hu) = 1#1) (j : t.Idx) (hj : ∀ i, h.drop i = j)
    (hr : Host.reduce IntOp.andi (cmpf .olt (Host.absf x) b) p h hu j = 1#1) (i : s.Idx) : x i = (((x i).toReal : ℝ) : EReal) := by
  classical
  rw [Host.reduce_eq_fold, hp] at hr
  have e := fold_and _ _ hr i (Finset.mem_filter.2 ⟨Finset.mem_univ i, hj i⟩)
  apply real_of_lt
  rw [← hb i]
  exact e

theorem pre_real (a0 : FVec Ideal Cert.Pre_finite.S32x64x32x32 .f32) (a1 : FVec Ideal Cert.Pre_finite.S1024x64 .f32)
    (h : Cert.Pre_finite.fn (F := Ideal) a0 a1 = fun _ => 1#1) :
    (∀ i, a0 i = (((a0 i).toReal : ℝ) : EReal)) ∧ ∀ i, a1 i = (((a1 i).toReal : ℝ) : EReal) := by
  have h0 := congrFun h (fun a => a.elim0)
  have hb : ∀ a b : BitVec 1, IntOp.andi a b = 1#1 → a = 1#1 ∧ b = 1#1 := by decide
  unfold Cert.Pre_finite.fn at h0
  obtain ⟨h1, h2⟩ := hb _ _ h0
  exact ⟨all_real a0 _ (fun _ => rfl) _ _ _ rfl _ (fun i => funext fun a => a.elim0) h1,
    all_real a1 _ (fun _ => rfl) _ _ _ rfl _ (fun i => funext fun a => a.elim0) h2⟩

/-! ## The claim -/

section

open Cert.ReferenceIdeal Cert.ReferenceIdeal.Gen

variable {a0 : FVec Ideal S32x64x32x32 .f32} {a1 : FVec Ideal S1024x64 .f32}
variable {z : Fin 32 → Fin 64 → Fin 32 → Fin 32 → ℝ} {w : Fin 1024 → Fin 64 → ℝ}

theorem rIdx_at (hz : ∀ b c i j, a0 (ix4 b c i j) = ((z b c i j : ℝ) : EReal)) (hw : ∀ k c, a1 (ix2 k c) = ((w k c : ℝ) : EReal)) (r : Fin 32768) :
    rIdx a0 a1 (ix1 r) = BitVec.ofNat 32 (nr z w r).val :=
  rI_at r fun k => rD_at (rX_at hz) hw r k

theorem rRows_at (hz : ∀ b c i j, a0 (ix4 b c i j) = ((z b c i j : ℝ) : EReal)) (hw : ∀ k c, a1 (ix2 k c) = ((w k c : ℝ) : EReal)) (r : Fin 32768) (c : Fin 64) :
    rRows a0 a1 (ix2 r c) = ((w (nr z w r) c : ℝ) : EReal) :=
  rT_at r c (nr z w r) (rW_at r _ (rIdx_at hz hw r)) hw

theorem ref_enc (hz : ∀ b c i j, a0 (ix4 b c i j) = ((z b c i j : ℝ) : EReal)) (hw : ∀ k c, a1 (ix2 k c) = ((w k c : ℝ) : EReal)) (r : Fin 32768) (k : Fin 1024) :
    rE (rIdx a0 a1) (ix2 r k) = if k = nr z w r then (1 : EReal) else (0 : EReal) :=
  rE_at r k (nr z w r) (rIdx_at hz hw r)

theorem ref_e (hz : ∀ b c i j, a0 (ix4 b c i j) = ((z b c i j : ℝ) : EReal)) (hw : ∀ k c, a1 (ix2 k c) = ((w k c : ℝ) : EReal))
    (v : FVec Ideal S32768x1024 .f32) (hv : ∀ r k, v (ix2 r k) = if k = nr z w r then (1 : EReal) else (0 : EReal)) : rE (rIdx a0 a1) = v := by
  funext j
  rw [eq_ix2 j]
  exact (ref_enc hz hw _ _).trans (hv _ _).symm

theorem ref_q (hz : ∀ b c i j, a0 (ix4 b c i j) = ((z b c i j : ℝ) : EReal)) (hw : ∀ k c, a1 (ix2 k c) = ((w k c : ℝ) : EReal))
    (v : FVec Ideal S32x64x32x32 .f32)
    (hv : ∀ (b : Fin 32) (c : Fin 64) (i j : Fin 32), v (ix4 b c i j) = ((w (nr z w ⟨1024 * b.val + 32 * i.val + j.val, by omega⟩) c : ℝ) : EReal)) :
    rQ a0 (rRows a0 a1) = v := by
  funext j
  rw [eq_ix4 j]
  exact (rQ_at hz (rRows_at hz hw) _ _ _ _).trans (hv _ _ _ _).symm

end

theorem algebraic : Cert.algebraic_KernelIdeal_ReferenceIdeal_pre_finite := by
  intro m g m' g' hpre hag
  have hA : ∀ c, ∃ z w, Args m c z w := fun c =>
    ⟨_, _, ⟨fun b c' i j => (pre_real _ _ (hpre c)).1 (ix4 b c' i j), fun k c' => (pre_real _ _ (hpre c)).2 (ix2 k c')⟩⟩
  refine ⟨fun c => Main.VZ m c (Proc.devRef .tc Cert.KernelIdeal.main_v17), fun c => Main.VZ m c (Proc.devRef .tc Cert.KernelIdeal.main_v18),
    fun c => Main.VZ m c (Proc.devRef .tc Cert.KernelIdeal.main_v19), fun c => Main.VZ m c (Proc.devRef .tc Cert.KernelIdeal.main_v8_0), ?_, ?_⟩
  · exact θ_run_mono (Main.run m g) fun r h c =>
      ⟨h.1 c Cert.KernelIdeal.main_v17 rfl, h.1 c Cert.KernelIdeal.main_v18 rfl, h.1 c Cert.KernelIdeal.main_v19 rfl, h.1 c Cert.KernelIdeal.main_v8_0 rfl,
        (h.1 c Cert.KernelIdeal.main_arg0 rfl).trans (Main.VZ_arg0 m c), (h.1 c Cert.KernelIdeal.main_arg1 rfl).trans (Main.VZ_arg1 m c)⟩
  · refine θ_run_mono (ref_run m' g') fun r h c => ?_
    obtain ⟨z, w, hc⟩ := hA c
    obtain ⟨h1, h2, h3, h4, h5, h6⟩ := h c
    have hz := hc.z
    have hw := hc.cw
    rw [(hag c).1, (hag c).2] at h1 h2 h3 h4
    refine ⟨h1.trans ?_, h2.trans ?_, h3.trans ?_, h4.trans ?_, h5, h6⟩
    · exact ref_q hz hw _ (res_q hc)
    · funext j
      exact (rL_at (rX_at hz) (rRows_at hz hw) j).trans (res_loss hc j).symm
    · funext j
      exact (rP_at (ref_enc hz hw) j).trans (res_perp hc j).symm
    · exact ref_e hz hw _ (res_enc hc)

end Cert.Proof.Val

end
-- ==== Proof.lean ====
/-
  The certificate: the kernel's frames at machine words and over the extended reals, the reference's frame, and the
  equality of their results over the extended reals at finite arguments.
-/
module

public import proofs.«01_k».proof.Defs
public import proofs.«01_k».proof.Proof.Frames
public import proofs.«01_k».proof.Proof.Alg
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_finite
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts, Cert.Pre_finite.Gen.facts,
    frame_Kernel, frame_KernelIdeal, frame_KernelIdeal_pre, frame_ReferenceIdeal, frame_ReferenceIdeal_pre, trivial, Val.algebraic⟩

end Cert.Proof

end
